-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_and_gamma_finite [hPre_tables_and_gamma_finite : Cert.Pre_tables_and_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tables_and_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_and_gamma_finite [hPre_tables_and_gamma_finite : Cert.Pre_tables_and_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_and_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tables_and_gamma_finite [hKernelIdeal : Cert.KernelIdeal.Facts] [hPre_tables_and_gamma_finite : Cert.Pre_tables_and_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_and_gamma_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tables_and_gamma_finite [hReferenceIdeal : Cert.ReferenceIdeal.Facts] [hPre_tables_and_gamma_finite : Cert.Pre_tables_and_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_and_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_tables_and_gamma_finite [hKernelIdeal : Cert.KernelIdeal.Facts] [hReferenceIdeal : Cert.ReferenceIdeal.Facts] [hPre_tables_and_gamma_finite : Cert.Pre_tables_and_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_and_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tables_and_gamma_finite : Cert.Pre_tables_and_gamma_finite.Facts),
    quiescent_Kernel (hKernel := hKernel)
    ∧ quiescent_KernelIdeal (hKernelIdeal := hKernelIdeal)
    ∧ quiescent_KernelIdeal_pre_tables_and_gamma_finite (hKernelIdeal := hKernelIdeal) (hPre_tables_and_gamma_finite := hPre_tables_and_gamma_finite)
    ∧ quiescent_ReferenceIdeal (hReferenceIdeal := hReferenceIdeal)
    ∧ quiescent_ReferenceIdeal_pre_tables_and_gamma_finite (hReferenceIdeal := hReferenceIdeal) (hPre_tables_and_gamma_finite := hPre_tables_and_gamma_finite)
    ∧ preserves_Kernel_KernelIdeal
    ∧ algebraic_KernelIdeal_ReferenceIdeal_pre_tables_and_gamma_finite (hKernelIdeal := hKernelIdeal) (hReferenceIdeal := hReferenceIdeal) (hPre_tables_and_gamma_finite := hPre_tables_and_gamma_finite)
-- ==== Pre_tables_and_gamma_finite.lean ====
abbrev S16384x26 : Shape := ⟨2, ![16384, 26]⟩
abbrev S26x100000x16 : Shape := ⟨3, ![26, 100000, 16]⟩
abbrev S416 : Shape := ⟨1, ![416]⟩
abbrev S512x416 : Shape := ⟨2, ![512, 416]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S26x100000x16 : S_.BroadcastsInDim S26x100000x16 (![] : Fin 0 → Fin S26x100000x16.rank)
  reducesTo_S26x100000x16_S_d0_1_2 : S26x100000x16.ReducesTo [0, 1, 2] S_
  h_S_ : 0 < S_.numel
  bcast_S_S416 : S_.BroadcastsInDim S416 (![] : Fin 0 → Fin S416.rank)
  reducesTo_S416_S_d0 : S416.ReducesTo [0] S_

variable [Facts]

def fn {F : FTy → Type} [FloatOps F] (main_arg0 : IVec S16384x26 32) (main_arg1 : FVec F S26x100000x16 .f32) (main_arg2 : FVec F S416 .f32) (main_arg3 : FVec F S416 .f32) (main_arg4 : FVec F S512x416 .f32) (main_arg5 : FVec F S512 .f32) (main_arg6 : FVec F S256x512 .f32) (main_arg7 : FVec F S256 .f32) (main_arg8 : FVec F S1x256 .f32) (main_arg9 : FVec F S1 .f32) : IVec S_ 1 :=
  let main_v0 : FVec F S26x100000x16 .f32 := Host.absf main_arg1
  let main_cst : FVec F S_ .f32 := constant S_ .f32 0x7F800000#32
  let main_v1 : FVec F S26x100000x16 .f32 := broadcastInDim S26x100000x16 ![] bcast_S_S26x100000x16 main_cst
  let main_v2 : IVec S26x100000x16 1 := cmpf .olt main_v0 main_v1
  let main_c : IVec S_ 1 := constantI S_ 1 1#1
  let main_v3 : IVec S_ 1 := (fun x v => Host.reduce IntOp.andi x v reducesTo_S26x100000x16_S_d0_1_2 h_S_) main_v2 main_c
  let main_v4 : FVec F S416 .f32 := Host.absf main_arg2
  let main_cst_0 : FVec F S_ .f32 := constant S_ .f32 0x7F800000#32
  let main_v5 : FVec F S416 .f32 := broadcastInDim S416 ![] bcast_S_S416 main_cst_0
  let main_v6 : IVec S416 1 := cmpf .olt main_v4 main_v5
  let main_c_1 : IVec S_ 1 := constantI S_ 1 1#1
  let main_v7 : IVec S_ 1 := (fun x v => Host.reduce IntOp.andi x v reducesTo_S416_S_d0 h_S_) main_v6 main_c_1
  let main_v8 : IVec S_ 1 := andi main_v3 main_v7
  main_v8
-- ==== Kernel.lean ====
abbrev S16384x26 : Shape := ⟨2, ![16384, 26]⟩
abbrev S26x100000x16 : Shape := ⟨3, ![26, 100000, 16]⟩
abbrev S416 : Shape := ⟨1, ![416]⟩
abbrev S512x416 : Shape := ⟨2, ![512, 416]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩
abbrev S26 : Shape := ⟨1, ![26]⟩
abbrev S1x26 : Shape := ⟨2, ![1, 26]⟩
abbrev S425984 : Shape := ⟨1, ![425984]⟩
abbrev S2600000x16 : Shape := ⟨2, ![2600000, 16]⟩
abbrev S425984x16 : Shape := ⟨2, ![425984, 16]⟩
abbrev S13312 : Shape := ⟨1, ![13312]⟩
abbrev S1664x16 : Shape := ⟨2, ![1664, 16]⟩
abbrev S1664 : Shape := ⟨1, ![1664]⟩
abbrev S16384x416 : Shape := ⟨2, ![16384, 416]⟩
abbrev S1x416 : Shape := ⟨2, ![1, 416]⟩
abbrev S2048x416 : Shape := ⟨2, ![2048, 416]⟩
abbrev S416x512 : Shape := ⟨2, ![416, 512]⟩
abbrev S1x512 : Shape := ⟨2, ![1, 512]⟩
abbrev S512x256 : Shape := ⟨2, ![512, 256]⟩
abbrev S1x1 : Shape := ⟨2, ![1, 1]⟩
abbrev S16384x1 : Shape := ⟨2, ![16384, 1]⟩
abbrev S2048x1 : Shape := ⟨2, ![2048, 1]⟩
abbrev S2048x512 : Shape := ⟨2, ![2048, 512]⟩
abbrev S2048x256 : Shape := ⟨2, ![2048, 256]⟩
abbrev S2048 : Shape := ⟨1, ![2048]⟩
abbrev S16384 : Shape := ⟨1, ![16384]⟩

abbrev nBuf : Table → Nat
  | .hbm => 40
  | .local .tc .vmem => 18
  | .local .scVector .vmem => 2
  | _ => 0

abbrev bufTy : (tb : Table) → Fin (nBuf tb) → BufTy
  | .hbm, ⟨0, _⟩ => ⟨S16384x26, .i32⟩
  | .hbm, ⟨1, _⟩ => ⟨S26x100000x16, .f32⟩
  | .hbm, ⟨2, _⟩ => ⟨S416, .f32⟩
  | .hbm, ⟨3, _⟩ => ⟨S416, .f32⟩
  | .hbm, ⟨4, _⟩ => ⟨S512x416, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16384x26, .i32⟩
  | .hbm, ⟨14, _⟩ => ⟨S16384x26, .i32⟩
  | .hbm, ⟨15, _⟩ => ⟨S_, .i32⟩
  | .hbm, ⟨16, _⟩ => ⟨S16384x26, .i32⟩
  | .hbm, ⟨17, _⟩ => ⟨S16384x26, .i32⟩
  | .hbm, ⟨18, _⟩ => ⟨S26, .i32⟩
  | .hbm, ⟨19, _⟩ => ⟨S1x26, .i32⟩
  | .hbm, ⟨20, _⟩ => ⟨S_, .i32⟩
  | .hbm, ⟨21, _⟩ => ⟨S1x26, .i32⟩
  | .hbm, ⟨22, _⟩ => ⟨S1x26, .i32⟩
  | .hbm, ⟨23, _⟩ => ⟨S16384x26, .i32⟩
  | .hbm, ⟨24, _⟩ => ⟨S16384x26, .i32⟩
  | .hbm, ⟨25, _⟩ => ⟨S425984, .i32⟩
  | .hbm, ⟨26, _⟩ => ⟨S2600000x16, .f32⟩
  | .hbm, ⟨27, _⟩ => ⟨S425984x16, .f32⟩
  | .hbm, ⟨28, _⟩ => ⟨S16384x416, .f32⟩
  | .hbm, ⟨29, _⟩ => ⟨S1x416, .f32⟩
  | .hbm, ⟨30, _⟩ => ⟨S1x416, .f32⟩
  | .hbm, ⟨31, _⟩ => ⟨S1x416, .f32⟩
  | .hbm, ⟨32, _⟩ => ⟨S1x416, .f32⟩
  | .hbm, ⟨33, _⟩ => ⟨S416x512, .f32⟩
  | .hbm, ⟨34, _⟩ => ⟨S1x512, .f32⟩
  | .hbm, ⟨35, _⟩ => ⟨S512x256, .f32⟩
  | .hbm, ⟨36, _⟩ => ⟨S1x256, .f32⟩
  | .hbm, ⟨37, _⟩ => ⟨S1x1, .f32⟩
  | .hbm, ⟨38, _⟩ => ⟨S16384x1, .f32⟩
  | .hbm, ⟨39, _⟩ => ⟨S16384, .f32⟩
  | .local .tc .vmem, ⟨0, _⟩ => ⟨S2048x416, .f32⟩
  | .local .tc .vmem, ⟨1, _⟩ => ⟨S2048x416, .f32⟩
  | .local .tc .vmem, ⟨2, _⟩ => ⟨S1x416, .f32⟩
  | .local .tc .vmem, ⟨3, _⟩ => ⟨S1x416, .f32⟩
  | .local .tc .vmem, ⟨4, _⟩ => ⟨S2048x416, .f32⟩
  | .local .tc .vmem, ⟨5, _⟩ => ⟨S2048x416, .f32⟩
  | .local .tc .vmem, ⟨6, _⟩ => ⟨S1x416, .f32⟩
  | .local .tc .vmem, ⟨7, _⟩ => ⟨S1x416, .f32⟩
  | .local .tc .vmem, ⟨8, _⟩ => ⟨S1x416, .f32⟩
  | .local .tc .vmem, ⟨9, _⟩ => ⟨S1x416, .f32⟩
  | .local .tc .vmem, ⟨10, _⟩ => ⟨S416x512, .f32⟩
  | .local .tc .vmem, ⟨11, _⟩ => ⟨S1x512, .f32⟩
  | .local .tc .vmem, ⟨12, _⟩ => ⟨S512x256, .f32⟩
  | .local .tc .vmem, ⟨13, _⟩ => ⟨S1x256, .f32⟩
  | .local .tc .vmem, ⟨14, _⟩ => ⟨S1x256, .f32⟩
  | .local .tc .vmem, ⟨15, _⟩ => ⟨S1x1, .f32⟩
  | .local .tc .vmem, ⟨16, _⟩ => ⟨S2048x1, .f32⟩
  | .local .tc .vmem, ⟨17, _⟩ => ⟨S2048x1, .f32⟩
  | .local .scVector .vmem, ⟨0, _⟩ => ⟨S13312, .i32⟩
  | .local .scVector .vmem, ⟨1, _⟩ => ⟨S1664x16, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c_1 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v7_scv : Ref sig .scVector := ⟨.hbm, 25, rfl⟩
abbrev main_v8_scv : Ref sig .scVector := ⟨.hbm, 26, rfl⟩
abbrev main_v9_scv : Ref sig .scVector := ⟨.hbm, 27, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg6_0 : Ref sig .tc := ⟨.vmem, 11, rfl⟩
abbrev cc2_stg7_0 : Ref sig .tc := ⟨.vmem, 12, rfl⟩
abbrev cc2_stg8_0 : Ref sig .tc := ⟨.vmem, 13, rfl⟩
abbrev cc2_stg9_0 : Ref sig .tc := ⟨.vmem, 14, rfl⟩
abbrev cc2_stg10_0 : Ref sig .tc := ⟨.vmem, 15, rfl⟩
abbrev cc2_stg11_0 : Ref sig .tc := ⟨.vmem, 16, rfl⟩
abbrev cc2_stg11_1 : Ref sig .tc := ⟨.vmem, 17, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc2_sem0_0 : DmaSem sig := 7
abbrev cc2_sem0_1 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev cc2_sem6_0 : DmaSem sig := 14
abbrev cc2_sem7_0 : DmaSem sig := 15
abbrev cc2_sem8_0 : DmaSem sig := 16
abbrev cc2_sem9_0 : DmaSem sig := 17
abbrev cc2_sem10_0 : DmaSem sig := 18
abbrev cc2_sem11_0 : DmaSem sig := 19
abbrev cc2_sem11_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  ![v2.toNat]
@[reducible] def k0_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c1664_i32 : BitVec 32 := 1664#32
  let v4 : BitVec 32 := Scalar.muli arg8 c1664_i32
  ![v4.toNat]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_0 : BitVec 32 := 0#32
  let c1_i32 : BitVec 32 := 1#32
  let arg8 : BitVec 32 := Scf.iv c0_i32_0 c1_i32 k0_t1
  let c1664_i32 : BitVec 32 := 1664#32
  let v4 : BitVec 32 := Scalar.muli arg8 c1664_i32
  let v9 : BitVec 32 := Scalar.addi v2 v4
  let c0_i32_6_r1 : BitVec 32 := 0#32
  ![v9.toNat, 0]
abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_2 : BitVec 32 := 0#32
  let v9 : BitVec 1 := Scalar.cmpi .ne v8 c0_i32_2
  v9

def k1_cond2 (i : grid1.Coords) : BitVec 1 :=
  let arg0 : BitVec 32 := BitVec.ofNat 32 (i 0).val
  let c0_i32_3 : BitVec 32 := 0#32
  let v10 : BitVec 1 := Scalar.cmpi .ne arg0 c0_i32_3
  let v11 : BitVec 32 := Scalar.extui v10
  let c0_i32_4 : BitVec 32 := 0#32
  let v12 : BitVec 1 := Scalar.cmpi .ne v11 c0_i32_4
  v12

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x416 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x416 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x416 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x416 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x416 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x416 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x416 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x416 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S416x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2048x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S26x100000x16 : Shape := ⟨3, ![26, 100000, 16]⟩
abbrev S416 : Shape := ⟨1, ![416]⟩
abbrev S512x416 : Shape := ⟨2, ![512, 416]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩
abbrev S26 : Shape := ⟨1, ![26]⟩
abbrev S1x26 : Shape := ⟨2, ![1, 26]⟩
abbrev S16384x26x1 : Shape := ⟨3, ![16384, 26, 1]⟩
abbrev S16384x26x2 : Shape := ⟨3, ![16384, 26, 2]⟩
abbrev S16384x26x16 : Shape := ⟨3, ![16384, 26, 16]⟩
abbrev S16384x416 : Shape := ⟨2, ![16384, 416]⟩
abbrev S1x416 : Shape := ⟨2, ![1, 416]⟩
abbrev S416x512 : Shape := ⟨2, ![416, 512]⟩
abbrev S16384x512 : Shape := ⟨2, ![16384, 512]⟩
abbrev S1x512 : Shape := ⟨2, ![1, 512]⟩
abbrev S512x256 : Shape := ⟨2, ![512, 256]⟩
abbrev S16384x256 : Shape := ⟨2, ![16384, 256]⟩
abbrev S256x1 : Shape := ⟨2, ![256, 1]⟩
abbrev S16384x1 : Shape := ⟨2, ![16384, 1]⟩
abbrev S1x1 : Shape := ⟨2, ![1, 1]⟩
abbrev S16384 : Shape := ⟨1, ![16384]⟩

abbrev nBuf : Space → Nat
  | .hbm => 114
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x100000x16, .f32⟩
  | .hbm, ⟨2, _⟩ => ⟨S416, .f32⟩
  | .hbm, ⟨3, _⟩ => ⟨S416, .f32⟩
  | .hbm, ⟨4, _⟩ => ⟨S512x416, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16384x26, .i32⟩
  | .hbm, ⟨14, _⟩ => ⟨S16384x26, .i32⟩
  | .hbm, ⟨15, _⟩ => ⟨S_, .i32⟩
  | .hbm, ⟨16, _⟩ => ⟨S16384x26, .i32⟩
  | .hbm, ⟨17, _⟩ => ⟨S16384x26, .i32⟩
  | .hbm, ⟨18, _⟩ => ⟨S26, .i32⟩
  | .hbm, ⟨19, _⟩ => ⟨S1x26, .i32⟩
  | .hbm, ⟨20, _⟩ => ⟨S_, .i32⟩
  | .hbm, ⟨21, _⟩ => ⟨S1x26, .i32⟩
  | .hbm, ⟨22, _⟩ => ⟨S1x26, .i1⟩
  | .hbm, ⟨23, _⟩ => ⟨S_, .i32⟩
  | .hbm, ⟨24, _⟩ => ⟨S1x26, .i32⟩
  | .hbm, ⟨25, _⟩ => ⟨S1x26, .i32⟩
  | .hbm, ⟨26, _⟩ => ⟨S1x26, .i32⟩
  | .hbm, ⟨27, _⟩ => ⟨S_, .i32⟩
  | .hbm, ⟨28, _⟩ => ⟨S16384x26, .i32⟩
  | .hbm, ⟨29, _⟩ => ⟨S16384x26, .i1⟩
  | .hbm, ⟨30, _⟩ => ⟨S_, .i32⟩
  | .hbm, ⟨31, _⟩ => ⟨S16384x26, .i32⟩
  | .hbm, ⟨32, _⟩ => ⟨S16384x26, .i32⟩
  | .hbm, ⟨33, _⟩ => ⟨S16384x26, .i32⟩
  | .hbm, ⟨34, _⟩ => ⟨S16384x26, .i32⟩
  | .hbm, ⟨35, _⟩ => ⟨S16384x26x1, .i32⟩
  | .hbm, ⟨36, _⟩ => ⟨S16384x26x1, .i32⟩
  | .hbm, ⟨37, _⟩ => ⟨S16384x26x2, .i32⟩
  | .hbm, ⟨38, _⟩ => ⟨S16384x26x16, .f32⟩
  | .hbm, ⟨39, _⟩ => ⟨S16384x416, .f32⟩
  | .hbm, ⟨40, _⟩ => ⟨S_, .f32⟩
  | .hbm, ⟨41, _⟩ => ⟨S416, .f32⟩
  | .hbm, ⟨42, _⟩ => ⟨S_, .f32⟩
  | .hbm, ⟨43, _⟩ => ⟨S416, .f32⟩
  | .hbm, ⟨44, _⟩ => ⟨S416, .f32⟩
  | .hbm, ⟨45, _⟩ => ⟨S_, .i32⟩
  | .hbm, ⟨46, _⟩ => ⟨S_, .f32⟩
  | .hbm, ⟨47, _⟩ => ⟨S416, .f32⟩
  | .hbm, ⟨48, _⟩ => ⟨S1x416, .f32⟩
  | .hbm, ⟨49, _⟩ => ⟨S_, .f32⟩
  | .hbm, ⟨50, _⟩ => ⟨S1x416, .f32⟩
  | .hbm, ⟨51, _⟩ => ⟨S1x416, .f32⟩
  | .hbm, ⟨52, _⟩ => ⟨S16384x416, .f32⟩
  | .hbm, ⟨53, _⟩ => ⟨S16384x416, .f32⟩
  | .hbm, ⟨54, _⟩ => ⟨S16384x416, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S416, .f32⟩
  | .hbm, ⟨60, _⟩ => ⟨S416, .f32⟩
  | .hbm, ⟨61, _⟩ => ⟨S416, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S416, .f32⟩
  | .hbm, ⟨67, _⟩ => ⟨S416, .f32⟩
  | .hbm, ⟨68, _⟩ => ⟨S1x416, .f32⟩
  | .hbm, ⟨69, _⟩ => ⟨S16384x416, .f32⟩
  | .hbm, ⟨70, _⟩ => ⟨S16384x416, .f32⟩
  | .hbm, ⟨71, _⟩ => ⟨S_, .f32⟩
  | .hbm, ⟨72, _⟩ => ⟨S416, .f32⟩
  | .hbm, ⟨73, _⟩ => ⟨S416, .f32⟩
  | .hbm, ⟨74, _⟩ => ⟨S416, .f32⟩
  | .hbm, ⟨75, _⟩ => ⟨S1x416, .f32⟩
  | .hbm, ⟨76, _⟩ => ⟨S16384x416, .f32⟩
  | .hbm, ⟨77, _⟩ => ⟨S16384x416, .f32⟩
  | .hbm, ⟨78, _⟩ => ⟨S1x416, .f32⟩
  | .hbm, ⟨79, _⟩ => ⟨S16384x416, .f32⟩
  | .hbm, ⟨80, _⟩ => ⟨S16384x416, .f32⟩
  | .hbm, ⟨81, _⟩ => ⟨S1x416, .f32⟩
  | .hbm, ⟨82, _⟩ => ⟨S16384x416, .f32⟩
  | .hbm, ⟨83, _⟩ => ⟨S16384x416, .f32⟩
  | .hbm, ⟨84, _⟩ => ⟨S416x512, .f32⟩
  | .hbm, ⟨85, _⟩ => ⟨S16384x512, .f32⟩
  | .hbm, ⟨86, _⟩ => ⟨S1x512, .f32⟩
  | .hbm, ⟨87, _⟩ => ⟨S16384x512, .f32⟩
  | .hbm, ⟨88, _⟩ => ⟨S16384x512, .f32⟩
  | .hbm, ⟨89, _⟩ => ⟨S_, .f32⟩
  | .hbm, ⟨90, _⟩ => ⟨S16384x512, .f32⟩
  | .hbm, ⟨91, _⟩ => ⟨S16384x512, .f32⟩
  | .hbm, ⟨92, _⟩ => ⟨S512x256, .f32⟩
  | .hbm, ⟨93, _⟩ => ⟨S16384x256, .f32⟩
  | .hbm, ⟨94, _⟩ => ⟨S1x256, .f32⟩
  | .hbm, ⟨95, _⟩ => ⟨S16384x256, .f32⟩
  | .hbm, ⟨96, _⟩ => ⟨S16384x256, .f32⟩
  | .hbm, ⟨97, _⟩ => ⟨S_, .f32⟩
  | .hbm, ⟨98, _⟩ => ⟨S16384x256, .f32⟩
  | .hbm, ⟨99, _⟩ => ⟨S16384x256, .f32⟩
  | .hbm, ⟨100, _⟩ => ⟨S256x1, .f32⟩
  | .hbm, ⟨101, _⟩ => ⟨S16384x1, .f32⟩
  | .hbm, ⟨102, _⟩ => ⟨S1x1, .f32⟩
  | .hbm, ⟨103, _⟩ => ⟨S16384x1, .f32⟩
  | .hbm, ⟨104, _⟩ => ⟨S16384x1, .f32⟩
  | .hbm, ⟨105, _⟩ => ⟨S16384x1, .f32⟩
  | .hbm, ⟨106, _⟩ => ⟨S16384x1, .f32⟩
  | .hbm, ⟨107, _⟩ => ⟨S_, .f32⟩
  | .hbm, ⟨108, _⟩ => ⟨S16384x1, .f32⟩
  | .hbm, ⟨109, _⟩ => ⟨S16384x1, .f32⟩
  | .hbm, ⟨110, _⟩ => ⟨S_, .f32⟩
  | .hbm, ⟨111, _⟩ => ⟨S16384x1, .f32⟩
  | .hbm, ⟨112, _⟩ => ⟨S16384x1, .f32⟩
  | .hbm, ⟨113, _⟩ => ⟨S16384, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c_1 : Ref sig .tc := ⟨.hbm, 20, rfl⟩
abbrev main_v3 : Ref sig .tc := ⟨.hbm, 21, rfl⟩
abbrev main_v4 : Ref sig .tc := ⟨.hbm, 22, rfl⟩
abbrev main_c_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_3 : Ref sig .tc := ⟨.hbm, 27, rfl⟩
abbrev main_v8 : Ref sig .tc := ⟨.hbm, 28, rfl⟩
abbrev main_v9 : Ref sig .tc := ⟨.hbm, 29, rfl⟩
abbrev main_c_4 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_c_6 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_cst_1 : Ref sig .tc := ⟨.hbm, 56, rfl⟩
abbrev main_call1_v8 : Ref sig .tc := ⟨.hbm, 57, rfl⟩
abbrev main_call1_cst_2 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_cst_3 : Ref sig .tc := ⟨.hbm, 62, rfl⟩
abbrev main_call1_v12 : Ref sig .tc := ⟨.hbm, 63, rfl⟩
abbrev main_call1_cst_4 : Ref sig .tc := ⟨.hbm, 64, rfl⟩
abbrev main_call1_call0_v0 : Ref sig .tc := ⟨.hbm, 65, rfl⟩
abbrev main_call1_call0_v1 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_7 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_call2_cst : Ref sig .tc := ⟨.hbm, 89, rfl⟩
abbrev main_call2_v0 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_call3_cst : Ref sig .tc := ⟨.hbm, 97, rfl⟩
abbrev main_call3_v0 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_cst_8 : Ref sig .tc := ⟨.hbm, 107, rfl⟩
abbrev main_v57 : Ref sig .tc := ⟨.hbm, 108, rfl⟩
abbrev main_v58 : Ref sig .tc := ⟨.hbm, 109, rfl⟩
abbrev main_cst_9 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩

abbrev nD : Nat := 1
abbrev τ : Topo := Topo.v7x

variable {F : FTy → Type} [FloatOps F]
-- ==== Proof.Ideal.Gather.lean ====
/-
  The SparseCore call: the thirty-two tiles' gather, with its value.

  Tile `(c, s)` is worker `w = 2 s + c`; it owns rows `13312 w … 13312 w + 13311` of the flat row numbers and of the
  gathered array, and reads the table through one of thirty-two shares of it. Row `r` of the gathered array is the
  table's row that word `r` of the row numbers names (`gathered`), provided every word is below 2600000.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! The algebra: the handshakes' rounds, the two pipelines' rounds, the local transfers' counters. -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays of the call -/

abbrev iLoc (d : Dev nD) : Loc nD τ sig := (SparseCore.T d).loc main_v7
abbrev xLoc (d : Dev nD) : Loc nD τ sig := (SparseCore.T d).loc main_v8
abbrev oLoc (d : Dev nD) : Loc nD τ sig := (SparseCore.T d).loc main_v9

local notation "iV" => (Memref.whole Cert.KernelIdeal.main_v7_scv : Memref Cert.KernelIdeal.sig Kind.scVector Space.hbm Cert.KernelIdeal.S425984 EltTy.i32)
local notation "xV" => (Memref.whole Cert.KernelIdeal.main_v8_scv : Memref Cert.KernelIdeal.sig Kind.scVector Space.hbm Cert.KernelIdeal.S2600000x16 EltTy.f32)
local notation "oV" => (Memref.whole Cert.KernelIdeal.main_v9_scv : Memref Cert.KernelIdeal.sig Kind.scVector Space.hbm Cert.KernelIdeal.S425984x16 EltTy.f32)
local notation "sV" => (Memref.whole Cert.KernelIdeal.cc0_scratch0 : Memref Cert.KernelIdeal.sig Kind.scVector Space.vmem Cert.KernelIdeal.S13312 EltTy.i32)
local notation "rV" => (Memref.whole Cert.KernelIdeal.cc0_scratch1 : Memref Cert.KernelIdeal.sig Kind.scVector Space.vmem Cert.KernelIdeal.S1664x16 EltTy.f32)

/-- The index `n` of the flat array of row numbers. -/
def flatIx (n : Fin 425984) : S425984.Idx := fun a => n.cast (by match a with | 0 => rfl)

theorem flatIx_val (n : Fin 425984) (a : Fin 1) : (flatIx n a).val = n.val := rfl

/-- The gathered array: row `r` is the table's row that word `r` names. -/
def gathered (ix : S425984.Idx → BitVec 32) (tb : S2600000x16.Idx → Elt F .f32) : S425984x16.Idx → Elt F .f32 := fun j =>
  tb (Shape.pair (d := ![2600000, 16]) ⟨(ix (flatIx (j 0))).toNat % 2600000, Nat.mod_lt _ (by decide)⟩ (j 1))

/-- Worker `w`'s rows of the row numbers and of the gathered array. -/
def iSet (w : ℕ) : Finset S425984.Idx := Finset.univ.filter fun j => (j 0).val / 13312 = w
def oSet (w : ℕ) : Finset S425984x16.Idx := Finset.univ.filter fun j => (j 0).val / 13312 = w

/-- Worker `w`'s share of the table. -/
abbrev xq (w : Fin 32) : PosShare TreeShare := Idealize.ShloMosaic.pieceOf fullShare 32 (by decide) w

/-- The worker a core and a subcore are. -/
def worker (c : Fin 2) (s : Fin 16) : Fin 32 := ⟨s.val * 2 + c.val, by omega⟩

variable (ix : (d : Dev nD) → Buf (Elt F) (iLoc d)) (tb : (d : Dev nD) → Buf (Elt F) (xLoc d))

/-- What worker `w` takes: its rows of the row numbers, its share of the table, its rows of the output at some contents. -/
abbrev takes (d : Dev nD) (w : Fin 32) : sProp 𝕄 :=
  iprop((iLoc d ↦[iSet w.val]{fullShare} ix d) ∗ (xLoc d ↦{xq w} tb d) ∗ ∃ f, oLoc d ↦[oSet w.val]{fullShare} f)
/-- What it brings back: the same, its rows of the output gathered. -/
abbrev brings (d : Dev nD) (w : Fin 32) : sProp 𝕄 :=
  iprop((iLoc d ↦[iSet w.val]{fullShare} ix d) ∗ (xLoc d ↦{xq w} tb d) ∗ oLoc d ↦[oSet w.val]{fullShare} gathered (ix d) (tb d))

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

abbrev wk (c : Fin ((K (F := F)).nCore 0)) (i : Fin ((K (F := F)).nSub 0)) : Fin 32 :=
  worker (Fin.cast nCore_zero c) (Fin.cast nSub_zero i)

/-- A core takes its sixteen workers' pieces and brings theirs back. -/
def P : (K (F := F)).Pay (nD := nD) (Val := Elt F) (Name := ℕ) (U := UU) where
  st := fun q d c => match q with | 0 => bigSep Finset.univ fun i => takes ix tb d (wk c i)
  dn := fun q d c => match q with | 0 => bigSep Finset.univ fun i => brings ix tb d (wk c i)
  go := fun q d c i => match q with | 0 => takes ix tb d (wk c i)
  td := fun q d c i => match q with | 0 => brings ix tb d (wk c i)
  x := fun _ _ => iprop(emp)

instance P_storable : (P (F := F) ix tb).IsStorable where
  st q d c := match q with
    | 0 => (inferInstance : BI.Storable (upEmb : UEmb _ 𝕄) (bigSep Finset.univ fun i => takes ix tb d (wk c i)))
  dn q d c := match q with
    | 0 => (inferInstance : BI.Storable (upEmb : UEmb _ 𝕄) (bigSep Finset.univ fun i => brings ix tb d (wk c i)))
  go q d c i := match q with
    | 0 => (inferInstance : BI.Storable (upEmb : UEmb _ 𝕄) (takes ix tb d (wk c i)))
  td q d c i := match q with
    | 0 => (inferInstance : BI.Storable (upEmb : UEmb _ 𝕄) (brings ix tb d (wk c i)))

/-- A core's pieces are its workers' pieces. -/
theorem vecSplit : (K (F := F)).VecSplit' (P ix tb) 0 := by
  intro d c
  show (bigSep Finset.univ fun i => takes ix tb d (wk c i)) ⊢ |={Set.univ}=> iprop(
      (bigSep Finset.univ fun i => takes ix tb d (wk c i))
      ∗ ((bigSep Finset.univ fun i => brings ix tb d (wk c i)) -∗ bigSep Finset.univ fun i => brings ix tb d (wk c i)))
  iintro H; imodintro
  isplitl [H]; · iexact H
  iintro H; iexact H

/-! ## One tile -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev wL (L : grid0.Coords) : Fin 32 := worker (Fin.cast bound_zero (L 0)) (Fin.cast bound_one (L 1))

/-- The tile's row numbers, all of the table, a trip's piece of the fetched list, a trip's rows of the output. -/
abbrev iMine (L : grid0.Coords) : Memref sig .scVector .hbm S13312 .i32 :=
  (iV).slice (Rect.unit (s := S425984) (k0_off1 L) S13312.size (k0_off1_inb L)) (fun _ => rfl)
abbrev xAll : Memref sig .scVector .hbm S2600000x16 .f32 :=
  (xV).slice (Rect.unit (s := S2600000x16) ![0, 0] S2600000x16.size inb_S2600000x16_S2600000x16_0_0) (fun _ => rfl)
abbrev sTrip (k : Fin k0_t1_loop.trips) : Memref sig .scVector .vmem S1664 .i32 :=
  (sV).slice (Rect.unit (s := S13312) (k0_off2 k) S1664.size (k0_off2_inb k)) (fun _ => rfl)
abbrev oTrip (L : grid0.Coords) (k : Fin k0_t1_loop.trips) : Memref sig .scVector .hbm S1664x16 .f32 :=
  (oV).slice (Rect.unit (s := S425984x16) (k0_off3 L k) S1664x16.size (k0_off3_inb L k)) (fun _ => rfl)

omit [FloatOps F] in
theorem wL_val : (wL L).val = (L 1).val * 2 + (L 0).val := rfl

omit [FloatOps F] in
theorem trips_eq : k0_t1_loop.trips = 8 := by decide

omit [FloatOps F] in
theorem set_iMine : (iMine L).view.set = iSet (wL L).val := by
  show ((View.whole (main_v7_scv : Ref sig .scVector)).slice _).set = _
  rw [View.set_slice_whole]
  ext j
  rw [Rect.mem_set_unit, iSet, Finset.mem_filter, wL_val]
  simp only [Finset.mem_univ, true_and, k0_off1_eq]
  constructor
  · intro h
    have := h 0
    change 26624 * (L 1).val + 13312 * (L 0).val ≤ (j 0).val ∧ (j 0).val < 26624 * (L 1).val + 13312 * (L 0).val + 13312 at this
    omega
  · intro h a; match a with
    | 0 =>
      change 26624 * (L 1).val + 13312 * (L 0).val ≤ (j 0).val ∧ (j 0).val < 26624 * (L 1).val + 13312 * (L 0).val + 13312
      omega

omit [FloatOps F] in
theorem mem_oTrip (k : Fin k0_t1_loop.trips) (j : S425984x16.Idx) :
    j ∈ (oTrip L k).view.set ↔ 13312 * (wL L).val + 1664 * k.val ≤ (j 0).val ∧ (j 0).val < 13312 * (wL L).val + 1664 * k.val + 1664 := by
  rw [show (oTrip L k).view.set = (Rect.unit (s := S425984x16) (k0_off3 L k) S1664x16.size (k0_off3_inb L k)).set from View.set_slice_whole _ _,
    Rect.mem_set_unit, wL_val]
  simp only [k0_off3_eq]
  constructor
  · intro h
    have := h 0
    change 26624 * (L 1).val + 13312 * (L 0).val + 1664 * k.val ≤ (j 0).val ∧ (j 0).val < 26624 * (L 1).val + 13312 * (L 0).val + 1664 * k.val + 1664 at this
    omega
  · intro h a; match a with
    | 0 =>
      change 26624 * (L 1).val + 13312 * (L 0).val + 1664 * k.val ≤ (j 0).val ∧ (j 0).val < 26624 * (L 1).val + 13312 * (L 0).val + 1664 * k.val + 1664
      omega
    | 1 =>
      have h : (j 1).val < 16 := (j 1).isLt
      change 0 ≤ (j 1).val ∧ (j 1).val < 0 + 16
      omega

omit [FloatOps F] in
theorem mem_oSet (w : ℕ) (j : S425984x16.Idx) : j ∈ oSet w ↔ (j 0).val / 13312 = w := by
  rw [oSet, Finset.mem_filter]; simp

omit [FloatOps F] in
theorem oTrip_subset (k : Fin k0_t1_loop.trips) : (oTrip L k).view.set ⊆ oSet (wL L).val := by
  intro j hj
  have := (mem_oTrip L k j).mp hj
  have hk : k.val < 8 := Nat.lt_of_lt_of_eq k.isLt trips_eq
  rw [mem_oSet]; omega

omit [FloatOps F] in
theorem pts_iMine (f : Buf (Elt F) (iLoc d)) :
    ((iMine L).view.loc (V d (cV L) (jV L)) ↦[(iMine L).view.set]{fullShare} f : sProp 𝕄) = iLoc d ↦[iSet (wL L).val]{fullShare} f := by
  rw [set_iMine]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cGat (d : Dev nD) (c : Fin τ.nSC) (i : Fin τ.nSub) : GSem nD τ sig := (V d c i, .dma cc0_scratch2.sem)
abbrev cFet (d : Dev nD) (c : Fin τ.nSC) (i : Fin τ.nSub) : GSem nD τ sig := (V d c i, .dma cc0_scoped0.sem)
abbrev cOut (d : Dev nD) (c : Fin τ.nSC) (i : Fin τ.nSub) : GSem nD τ sig := (V d c i, .dma cc0_scoped1.sem)

omit [FloatOps F] in
/-- The three semaphores the tile's transfers use, taken out of its own. -/
theorem ownSems0_V :
    (ownSems0 (V d (cV L) (jV L)) : sProp 𝕄)
      = iprop(semVal (cGat d (cV L) (jV L)) 0 ∗ semVal (cFet d (cV L) (jV L)) 0 ∗ semVal (cOut d (cV L) (jV L)) 0
          ∗ bigSep ((((ownCells (V d (cV L) (jV L))).erase (cGat d (cV L) (jV L))).erase (cFet d (cV L) (jV L))).erase (cOut d (cV L) (jV L))) fun g => semVal g 0) := by
  unfold SparseCore.Cfg.ownSems0
  rw [SparseCore.bigSep_erase' ((mem_ownCells (g := cGat d (cV L) (jV L))).mpr ⟨rfl, by
      show (SemLoc.dma cc0_scratch2.sem : SemLoc sig).isScoped .scVector = true; decide⟩),
    SparseCore.bigSep_erase' (Finset.mem_erase.mpr ⟨by simp [cGat, cFet]; decide, (mem_ownCells (g := cFet d (cV L) (jV L))).mpr ⟨rfl, by
      show (SemLoc.dma cc0_scoped0.sem : SemLoc sig).isScoped .scVector = true; decide⟩⟩),
    SparseCore.bigSep_erase' (Finset.mem_erase.mpr ⟨by simp [cFet, cOut]; decide, Finset.mem_erase.mpr ⟨by simp [cGat, cOut]; decide,
      (mem_ownCells (g := cOut d (cV L) (jV L))).mpr ⟨rfl, by show (SemLoc.dma cc0_scoped1.sem : SemLoc sig).isScoped .scVector = true; decide⟩⟩⟩)]

omit [FloatOps F] in
/-- The two scratch buffers, taken out of the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The list the tile fetched: its rows of the row numbers. -/
abbrev fetched (ix : (d : Dev nD) → Buf (Elt F) (iLoc d)) (d : Dev nD) (L : grid0.Coords) : Buf (Elt F) ((V d (cV L) (jV L)).loc cc0_scratch0) :=
  (iMine L).view.read (Elt F) (ix d)

omit [FloatOps F] in
/-- Word `x` of the fetched list is word `13312 w + x` of the row numbers. -/
theorem fetched_apply (x : S13312.Idx) (n : Fin 425984) (h : n.val = 13312 * (wL L).val + (x 0).val) :
    fetched ix d L x = ix d (flatIx n) := by
  show (iMine L).view.read (Elt F) (ix d) x = _
  refine ((View.read_apply _ _).trans (cast_eq _ _)).trans (congrArg (ix d) ?_)
  funext a
  match a with
  | 0 =>
    apply Fin.ext
    show (k0_off1 L) 0 + 1 * (x 0).val = n.val
    rw [h, k0_off1_eq, wL_val]; simp only [Matrix.cons_val_zero]; omega

omit [FloatOps F] in
/-- Word `x` of a trip's piece of the list. -/
theorem sTrip_apply (k : Fin k0_t1_loop.trips) (x : S1664.Idx) (n : Fin 425984) (h : n.val = 13312 * (wL L).val + 1664 * k.val + (x 0).val) :
    (sTrip k).view.read (Elt F) (fetched ix d L) x = ix d (flatIx n) := by
  refine ((View.read_apply _ _).trans (cast_eq _ _)).trans ?_
  refine fetched_apply ix d L _ n ?_
  rw [h]
  show _ = 13312 * (wL L).val + ((k0_off2 k) 0 + 1 * (x 0).val)
  rw [k0_off2_eq]; simp only [Matrix.cons_val_zero]; omega

/-- Every row number names a row of the table. -/
def InRange (ix : (d : Dev nD) → Buf (Elt F) (iLoc d)) : Prop := ∀ (d : Dev nD) (n : Fin 425984), (ix d (flatIx n)).toNat < 2600000

omit [FloatOps F] in
theorem inRange_trip (hix : InRange ix) (k : Fin k0_t1_loop.trips) :
    ∀ x, ((sTrip k).view.read (Elt F) (fetched ix d L) x).toNat < S2600000x16.size gathers_S2600000x16_S1664x16.axis := by
  intro x
  have hk : k.val < 8 := Nat.lt_of_lt_of_eq k.isLt trips_eq
  have hw := (wL L).isLt
  have hx : (x 0).val < 1664 := (x 0).isLt
  rw [sTrip_apply ix d L k x ⟨13312 * (wL L).val + 1664 * k.val + (x 0).val, by omega⟩ rfl]
  exact hix d _

/-- What trip `k` writes to its rows of the output. -/
abbrev tripPay (hix : InRange ix) (k : Fin k0_t1_loop.trips) : S1664x16.Idx → Elt F .f32 :=
  SparseCore.gatherPayload gathers_S2600000x16_S1664x16 ((xAll).view.read (Elt F) (tb d))
    (SparseCore.rows ((sTrip k).view.read (Elt F) (fetched ix d L)) rfl (inRange_trip ix d L hix k))

omit [FloatOps F] in
/-- A trip's payload at `x` is the gathered array there. -/
theorem tripPay_apply (hix : InRange ix) (k : Fin k0_t1_loop.trips) (x : S1664x16.Idx) :
    tripPay ix tb d L hix k x = gathered (ix d) (tb d) ((oTrip L k).view.emb x) := by
  have hk : k.val < 8 := Nat.lt_of_lt_of_eq k.isLt trips_eq
  have hw := (wL L).isLt
  have hx : (x 0).val < 1664 := (x 0).isLt
  have e0 : (((oTrip L k).view.emb x) 0).val = 13312 * (wL L).val + 1664 * k.val + (x 0).val := by
    show (k0_off3 L k) 0 + 1 * (x 0).val = _
    rw [k0_off3_eq, wL_val]; simp only [Matrix.cons_val_zero]; omega
  have e1 : (((oTrip L k).view.emb x) 1).val = (x 1).val := by
    show (k0_off3 L k) 1 + 1 * (x 1).val = _
    rw [k0_off3_eq]; simp
  show (xAll).view.read (Elt F) (tb d) _ = _
  refine ((View.read_apply _ _).trans (cast_eq _ _)).trans ?_
  unfold gathered
  refine congrArg (tb d) ?_
  funext a
  apply Fin.ext
  match a with
  | 0 =>
    show 0 + 1 * ((sTrip k).view.read (Elt F) (fetched ix d L) _).toNat = (ix d (flatIx _)).toNat % 2600000
    refine Eq.trans ?_ (Nat.mod_eq_of_lt (hix d _)).symm
    rw [Nat.one_mul, Nat.zero_add]
    refine congrArg BitVec.toNat (sTrip_apply ix d L k _ _ ?_)
    rw [e0]
    have e := congrArg Fin.val (S1664.rowMajor.apply_symm_apply (Fin.cast rfl (x 0)))
    rw [Shape.rowMajor_val_one] at e
    exact congrArg (13312 * (wL L).val + 1664 * k.val + ·) e.symm
  | 1 =>
    show 0 + 1 * (x 1).val = _
    rw [Nat.one_mul, Nat.zero_add]; exact e1.symm

/-- Before trip `n`: the list fetched, the row buffer at some contents, the table's share, the output's first `1664 n` rows
    gathered, the semaphores at zero, and only local waits recorded. -/
def inv (O : CellTallies nD τ sig (HIx 1)) (W : Waits sig (HIx 1)) (n : ℕ) (_ : PUnit) : sProp 𝕄 :=
  iprop(Transfers.MayWaits (V d (cV L) (jV L)) (none : HIx 1) O
    ∗ ((sV).view.loc (V d (cV L) (jV L)) ↦{fullShare} fetched ix d L)
    ∗ (∃ f, (rV).view.loc (V d (cV L) (jV L)) ↦{fullShare} f)
    ∗ ((xV).view.loc (V d (cV L) (jV L)) ↦{xq (wL L)} tb d)
    ∗ (∃ f, ⌜∀ j ∈ oSet (wL L).val, (j 0).val < 13312 * (wL L).val + 1664 * n → f j = gathered (ix d) (tb d) j⌝
        ∗ ((oV).view.loc (V d (cV L) (jV L)) ↦[oSet (wL L).val]{fullShare} f))
    ∗ semVal (cGat d (cV L) (jV L)) 0 ∗ semVal (cOut d (cV L) (jV L)) 0
    ∗ ∃ W', ⌜∀ p ∈ W', p ∈ W ∨ p.2 = none⌝ ∗ owes (V d (cV L) (jV L)) O W')

set_option maxHeartbeats 4000000 in
/-- One trip: its piece of the list gathered into the row buffer, and the row buffer copied to its rows of the output. -/
theorem trip (hix : InRange ix) (O : CellTallies nD τ sig (HIx 1)) (W : Waits sig (HIx 1)) (k : Fin k0_t1_loop.trips) :
    inv ix tb d L O W k.val ⟨⟩
      ⊢ wp frame (wpE (defs₀ (F := F)) 𝒱₀ (V d (cV L) (jV L)) none) Set.univ
          (k0_t1_body L iV (Memref.isWhole_whole _) xV (Memref.isWhole_whole _) oV (Memref.isWhole_whole _)
            sV (Memref.isWhole_whole _) rV (Memref.isWhole_whole _) cc0_scratch2 cc0_scoped0 cc0_scoped1 k ⟨⟩)
          fun _ => inv ix tb d L O W (k.val + 1) ⟨⟩ := by
  unfold inv k0_t1_body
  iintro ⟨#Hmw, Hs, ⟨%fr, Hr⟩, Hx, ⟨%fo, %hfo, Ho⟩, HsemB, HsemC, %W', %hW', HO⟩
  ihave Hxs := (pointsTo_split_subset (q := xq (wL L)) (f := tb d) (S := Finset.univ) (Finset.subset_univ (xAll).view.set)).1 $$ Hx
  icases Hxs with ⟨Hxs, Hxr⟩
  ihave Hss := (pointsTo_split_subset (q := fullShare) (f := fetched ix d L) (S := Finset.univ) (Finset.subset_univ (sTrip k).view.set)).1 $$ Hs
  icases Hss with ⟨Hss, Hsr⟩
  ihave Hos := (pointsTo_split_subset (q := fullShare) (f := fo) (oTrip_subset L k)).1 $$ Ho
  icases Hos with ⟨Hos, Hor⟩
  ihave Hos' := (Entails.of_eq (show ((oV).view.loc (V d (cV L) (jV L)) ↦[(oTrip L k).view.set]{fullShare} fo : sProp 𝕄)
      = (oTrip L k).view.loc (V d (cV L) (jV L)) ↦[(oTrip L k).view.set]{fullShare} fo from rfl)) $$ Hos
  have hrs : (rV).view.set = Finset.univ := View.set_whole _
  ihave Hr' := (Entails.of_eq (show ((rV).view.loc (V d (cV L) (jV L)) ↦{fullShare} fr : sProp 𝕄)
      = (rV).view.loc (V d (cV L) (jV L)) ↦[(rV).view.set]{fullShare} fr by rw [hrs])) $$ Hr
  iapply (SparseCore.wp_indirectGatherLocal countersEmb 𝒱₀ (V d (cV L) (jV L)) none (hg := gathers_S2600000x16_S1664x16) (default : HIx 1)
      (rV).view.dmaCredit (SparseCore.sum_rowCredit_eq_dmaCredit (rV) _ (fun _ => rfl)) (by decide) (inRange_trip ix d L hix k)) $$ [Hxs Hr' Hss HsemB]
  · isplitl [Hxs]; · iexact Hxs
    isplitl [Hr']; · iexact Hr'
    isplitl [Hss]; · iexact Hss
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Hxs, Hss⟩, HsemB, HO⟩
  ihave Hx := (pointsTo_split_subset (q := xq (wL L)) (f := tb d) (S := Finset.univ) (Finset.subset_univ (xAll).view.set)).2 $$ [Hxs Hxr]; · isplitl [Hxs] <;> iassumption
  ihave Hs := (pointsTo_split_subset (q := fullShare) (f := fetched ix d L) (S := Finset.univ) (Finset.subset_univ (sTrip k).view.set)).2 $$ [Hss Hsr]; · isplitl [Hss] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr
  sl_exec (disch := exact View.amount_pos _ _ (show 0 < S1664x16.numel by decide))
  sl_step
  have hpay : trip.sl.dma0 ix tb d L hix k fr = tripPay ix tb d L hix k := by
    unfold trip.sl.dma0
    show (rV).view.read (Elt F) (View.write (Elt F) (rV).view fr (tripPay ix tb d L hix k) Finset.univ) = _
    exact View.read_write_univ _ _
  rw [hpay]
  have hin : ∀ j ∈ (oTrip L k).view.set,
      (oTrip L k).view.writes (Elt F) fo [⟨Rect.whole S1664x16, tripPay ix tb d L hix k⟩] j = gathered (ix d) (tb d) j := by
    intro j hj
    obtain ⟨x, -, rfl⟩ := Finset.mem_map.mp hj
    have e := congrFun (View.read_writes_whole (Val := Elt F) (oTrip L k).view fo (tripPay ix tb d L hix k)) x
    exact (((View.read_apply _ _).trans (cast_eq _ _)).symm.trans e).trans (tripPay_apply ix tb d L hix k x)
  have hout : ∀ j ∉ (oTrip L k).view.set,
      (oTrip L k).view.writes (Elt F) fo [⟨Rect.whole S1664x16, tripPay ix tb d L hix k⟩] j = fo j :=
    fun j hj => View.writes_apply_of_forall_ne _ _ _ fun y e => hj (e ▸ View.emb_mem_set _ y)
  ihave Hor' := (Entails.of_eq (pointsTo_congr (ℓ := (oV).view.loc (V d (cV L) (jV L))) (q := fullShare) (I := oSet (wL L).val \ (oTrip L k).view.set) (f := fo)
    (g := (oTrip L k).view.writes (Elt F) fo [⟨Rect.whole S1664x16, tripPay ix tb d L hix k⟩])
    fun j hj => (hout j (Finset.mem_sdiff.mp hj).2).symm)) $$ Hor
  ihave Ho := (pointsTo_split_subset (ℓ := (oV).view.loc (V d (cV L) (jV L))) (q := fullShare)
    (f := (oTrip L k).view.writes (Elt F) fo [⟨Rect.whole S1664x16, tripPay ix tb d L hix k⟩]) (oTrip_subset L k)).2 $$ [Hos' Hor']
  · isplitl [Hos'] <;> iassumption
  isplitr; · iexact Hmw
  isplitl [Hs]; · iexact Hs
  isplitl [Hr3]; · iexists _; iexact Hr3
  isplitl [Hx]; · iexact Hx
  isplitl [Ho]
  · iexists _; isplitr
    swap; · iexact Ho
    ipureintro
    intro j hj hlt
    by_cases h : j ∈ (oTrip L k).view.set
    · exact hin j h
    · rw [hout j h]
      refine hfo j hj ?_
      have := (mem_oTrip L k j).not.mp h
      omega
  isplitl [HsemB]; · iexact HsemB
  isplitl [HsemC]; · iexact HsemC
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 4000000 in
/-- The kernel on one tile: the list fetched, then eight trips. -/
theorem tile_body (hix : InRange ix) (O : CellTallies nD τ sig (HIx 1)) (W : Waits sig (HIx 1)) (hO : ∀ g, O g none = 0) :
    iprop(levAts (K (F := F)).L (K (F := F)).lev ∗ emp ∗ takes ix tb d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) xV (Memref.isWhole_whole _) oV (Memref.isWhole_whole _)
            sV (Memref.isWhole_whole _) rV (Memref.isWhole_whole _) cc0_scratch2 cc0_scoped0 cc0_scoped1)
          fun _ => iprop(brings ix tb d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V facts d (cV L) (jV L), SparseCore.Cfg.scopedSems0_V (Val := Elt F) d (cV L) (jV L), ownSems0_V, ownBufs_V]
  iintro ⟨#Hlv, -, ⟨Hi, Hx, %fo, Ho⟩, ⟨⟨%fs, Hs⟩, ⟨%fr, Hr⟩, Hbufs⟩, ⟨HsemB, HsemA, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iMine (F := F) d L _).symm) $$ Hi
  ihave Hs' := (Entails.of_eq (pts_sV (F := F) d L _).symm) $$ Hs
  ihave Hr' := (Entails.of_eq (pts_rV (F := F) d L _).symm) $$ Hr
  ihave Hx' := (Entails.of_eq (pts_xV (F := F) d L _ _).symm) $$ Hx
  sl_exec
  have hs : View.write (Elt F) (sV).view fs (tile_body.sl.dma0 ix d L) Finset.univ = fetched ix d L := by
    rw [View.write_whole_univ]; rfl
  ihave Hs2 := (Entails.of_eq (show ((sV).view.loc (V d (cV L) (jV L)) ↦{fullShare} View.write (Elt F) (sV).view fs (tile_body.sl.dma0 ix d L) Finset.univ : sProp 𝕄)
      = (sV).view.loc (V d (cV L) (jV L)) ↦{fullShare} fetched ix d L by rw [hs])) $$ Hs'
  sl_for (inv ix tb d L O W) $$ [Hmw Hs2 Hr' Hx' Ho HsemB HsemC HO]
  case region =>
    intro k _
    exact trip ix tb d L hix O W k
  · unfold inv
    isplitr; · iexact Hmw
    isplitl [Hs2]; · iexact Hs2
    isplitl [Hr']; · iexists _; iexact Hr'
    isplitl [Hx']; · iexact Hx'
    isplitl [Ho]
    · iexists fo; isplitr
      swap; · iexact Ho
      ipureintro
      intro j hj hlt
      have := (mem_oSet _ j).mp hj
      omega
    isplitl [HsemB]; · iexact HsemB
    isplitl [HsemC]; · iexact HsemC
    iexists _; isplitr
    swap; · iexact HO
    ipureintro; intro p hp
    rcases Finset.mem_insert.mp hp with hp | hp; · exact .inr (hp ▸ rfl)
    exact .inl hp
  iintro %_ HI
  unfold inv
  icases HI with ⟨-, Hs, ⟨%fr', Hr⟩, Hx, ⟨%f, %hf, Ho⟩, HsemB, HsemC, HO⟩
  sl_exec
  sl_step
  have hg : ∀ j ∈ oSet (wL L).val, f j = gathered (ix d) (tb d) j := fun j hj => hf j hj (by
    have := (mem_oSet _ j).mp hj
    show (j 0).val < 13312 * (wL L).val + 1664 * k0_t1_loop.trips
    rw [trips_eq]; omega)
  ihave Ho' := (Entails.of_eq (pointsTo_congr (ℓ := oLoc d) (q := fullShare) (I := oSet (wL L).val) hg)) $$ Ho
  isplitl [Hi' Hx Ho']
  · isplitl [Hi']; · iapply (Entails.of_eq (pts_iMine (F := F) d L _)); iexact Hi'
    isplitl [Hx]; · iexact Hx
    iexact Ho'
  isplitl [Hs Hr Hbufs]
  · isplitl [Hs]; · iexists _; iexact Hs
    isplitl [Hr]; · iexists _; iexact Hr
    iexact Hbufs
  isplitl [HsemA HsemB HsemC Hsems]
  · isplitl [HsemB]; · iexact HsemB
    isplitl [HsemA]; · iexact HsemA
    isplitl [HsemC]; · iexact HsemC
    iexact Hsems
  iexact HO

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hix : InRange ix) : (K (F := F)).TileObl (D (F := F)) 𝒱 (P ix tb) v₀ 0 := by
  intro d c i O W hO _ _
  simp only [show (P ix tb).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ix tb d (coordsV ⟨_, hci.1⟩ ⟨_, hci.2⟩) hix O W hO).trans (wp_mono frame _ _ fun _ => obl_post)

end Tile

/-! ## The whole arrays are the workers' pieces -/

omit [FloatOps F] in
/-- Over the cores and their subcores, or over the workers. -/
theorem bigSep_workers (Φ : Fin 32 → sProp 𝕄) :
    (bigSep Finset.univ fun c : Fin 2 => bigSep Finset.univ fun s : Fin 16 => Φ (worker c s)) = bigSep Finset.univ Φ := by
  rw [← bigSep_univ_prod (fun p : Fin 2 × Fin 16 => Φ (worker p.1 p.2)),
    bigSep_univ_equiv ((Equiv.prodComm (Fin 2) (Fin 16)).trans finProdFinEquiv) Φ]
  refine bigSep_congr fun p _ => congrArg Φ (Fin.ext ?_)
  show p.2.val * 2 + p.1.val = p.1.val + 2 * p.2.val
  omega

theorem iSet_disjoint : ∀ a ∈ (Finset.univ : Finset (Fin 32)), ∀ b ∈ (Finset.univ : Finset (Fin 32)), a ≠ b → Disjoint (iSet a.val) (iSet b.val) :=
  fun _ _ _ _ hab => Finset.disjoint_left.mpr fun _ ha hb =>
    hab (Fin.ext ((Finset.mem_filter.mp ha).2.symm.trans (Finset.mem_filter.mp hb).2))
theorem iSet_cover : (Finset.univ : Finset (Fin 32)).biUnion (fun w => iSet w.val) = Finset.univ :=
  Finset.eq_univ_of_forall fun j => by
    have hj : (j 0).val < 425984 := (j 0).isLt
    exact Finset.mem_biUnion.mpr ⟨⟨(j 0).val / 13312, by omega⟩, Finset.mem_univ _, Finset.mem_filter.mpr ⟨Finset.mem_univ _, rfl⟩⟩

omit [FloatOps F] in
theorem iPts_workers (d : Dev nD) (f : Buf (Elt F) (iLoc d)) :
    (iLoc d ↦{fullShare} f : sProp 𝕄) = bigSep Finset.univ fun w : Fin 32 => iLoc d ↦[iSet w.val]{fullShare} f := by
  rw [← pointsTo_biUnion Finset.univ (ℓ := iLoc d) (fun w : Fin 32 => iSet w.val) iSet_disjoint, iSet_cover]; try rfl

theorem oSet_disjoint : ∀ a ∈ (Finset.univ : Finset (Fin 32)), ∀ b ∈ (Finset.univ : Finset (Fin 32)), a ≠ b → Disjoint (oSet a.val) (oSet b.val) :=
  fun _ _ _ _ hab => Finset.disjoint_left.mpr fun _ ha hb =>
    hab (Fin.ext ((Finset.mem_filter.mp ha).2.symm.trans (Finset.mem_filter.mp hb).2))
theorem oSet_cover : (Finset.univ : Finset (Fin 32)).biUnion (fun w => oSet w.val) = Finset.univ :=
  Finset.eq_univ_of_forall fun j => by
    have hj : (j 0).val < 425984 := (j 0).isLt
    exact Finset.mem_biUnion.mpr ⟨⟨(j 0).val / 13312, by omega⟩, Finset.mem_univ _, Finset.mem_filter.mpr ⟨Finset.mem_univ _, rfl⟩⟩

omit [FloatOps F] in
theorem oPts_workers (d : Dev nD) (f : Buf (Elt F) (oLoc d)) :
    (oLoc d ↦{fullShare} f : sProp 𝕄) = bigSep Finset.univ fun w : Fin 32 => oLoc d ↦[oSet w.val]{fullShare} f := by
  rw [← pointsTo_biUnion Finset.univ (ℓ := oLoc d) (fun w : Fin 32 => oSet w.val) oSet_disjoint, oSet_cover]; try rfl

omit [FloatOps F] in
theorem xPts_workers (d : Dev nD) (f : Buf (Elt F) (xLoc d)) :
    (xLoc d ↦{fullShare} f : sProp 𝕄) = bigSep Finset.univ fun w : Fin 32 => xLoc d ↦{xq w} f :=
  pointsTo_piecesOf Finset.univ f (by decide) fullShare

/-- What the cores take at the start is the three arrays. -/
theorem starts_of_arrays (d : Dev nD) (f : Buf (Elt F) (oLoc d)) :
    iprop((iLoc d ↦{fullShare} ix d) ∗ (xLoc d ↦{fullShare} tb d) ∗ (oLoc d ↦{fullShare} f))
      ⊢ (bigSep Finset.univ fun c : Fin ((K (F := F)).nCore 0) => (P ix tb).st 0 d c : sProp 𝕄) := by
  rw [show (bigSep Finset.univ fun c : Fin ((K (F := F)).nCore 0) => (P ix tb).st 0 d c : sProp 𝕄)
      = bigSep Finset.univ fun w : Fin 32 => takes ix tb d w from bigSep_workers (fun w => takes ix tb d w),
    iPts_workers, oPts_workers, xPts_workers, ← bigSep_sep', ← bigSep_sep']
  refine bigSep_mono fun w _ => ?_
  show iprop((iLoc d ↦[iSet w.val]{fullShare} ix d) ∗ (xLoc d ↦{xq w} tb d) ∗ (oLoc d ↦[oSet w.val]{fullShare} f))
    ⊢ iprop((iLoc d ↦[iSet w.val]{fullShare} ix d) ∗ (xLoc d ↦{xq w} tb d) ∗ ∃ f, oLoc d ↦[oSet w.val]{fullShare} f)
  iintro ⟨Hi, Hx, Ho⟩
  isplitl [Hi]; · iexact Hi
  isplitl [Hx]; · iexact Hx
  iexists f; iexact Ho

/-- What the cores hand back at the end is the three arrays, the output gathered. -/
theorem arrays_of_dones (d : Dev nD) :
    (bigSep Finset.univ fun c : Fin ((K (F := F)).nCore 0) => (P ix tb).dn 0 d c : sProp 𝕄)
      ⊢ iprop((iLoc d ↦{fullShare} ix d) ∗ (xLoc d ↦{fullShare} tb d) ∗ (oLoc d ↦{fullShare} gathered (ix d) (tb d))) := by
  rw [show (bigSep Finset.univ fun c : Fin ((K (F := F)).nCore 0) => (P ix tb).dn 0 d c : sProp 𝕄)
      = bigSep Finset.univ fun w : Fin 32 => brings ix tb d w from bigSep_workers (fun w => brings ix tb d w),
    iPts_workers, oPts_workers, xPts_workers, ← bigSep_sep', ← bigSep_sep']

end Cert.RunIdeal

end
-- ==== Proof.Ideal.Stats.lean ====
/- The first TensorCore pipeline: column sums and column sums of squares of the gathered rows, accumulated over the
   eight row blocks. This module states what the two accumulators hold after every point and proves the kernel body's
   triple at every point, at any float instance. -/
module

public import proofs.«01_k».proof.Proof.Ideal.Gather
public import proofs.«01_k».proof.Proof.Gen.KernelIdeal.Launch
public import proofs.«01_k».proof.Proof.Gen.KernelIdeal.Points
public import Idealize.ShloMosaic.Lib.Pipeline.FrameBody
public import Idealize.ShloMosaic.Lib.Pipeline.TableIdle
public import Idealize.ShloMosaic.Lib.Pipeline.Frame
public import Idealize.ShloMosaic.Lib.Pipeline.Value
public import Idealize.ShloMosaic.Lib.VecWindow
public import Idealize.ShloMosaic.Lib.WordCmp

@[expose] public section

set_option maxRecDepth 16384

noncomputable section

namespace Cert.RunIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The proof data's type of a pipeline `cfg` on core `c`. -/
abbrev PDat (F : FTy → Type) (cfg : Pipeline.Cfg sig Λ₀) (c : Dev nD) : Type _ := Dat τ (Elt F) (HIx 1) ℕ UU ℕ cfg c

/-- Contents of every TensorCore buffer of every device. -/
abbrev Vals (F : FTy → Type) : Type := (c : Dev nD) → (b : Ref sig .tc) → Buf (Elt F) ((c.tc : Thread nD τ).loc b)

/-- The (cell, index) pairs a TensorCore may have waited at once the gather is over. -/
def past (c : Dev nD) : Set (SemLoc sig × HIx 1) :=
  {p | (K (F := F)).lev ((SparseCore.T c : Thread nD τ), p.1) p.2 ≤ 8 * (inferInstance : SparseCore.Cfg.Blocks 1 1).fst 1}

/-! ## The contents, point by point -/

variable (W : Vals F)

/-- Row block `t` of the gathered rows. -/
def xBlk (c : Dev nD) (t : Fin cfg1.N) : Vec F S2048x416 .f32 :=
  ((cfg1.win 0).blk t).view.read (Elt F) (W c (Pipeline.arrRef spec1 0))

/-- What the two accumulators hold after point `n`: block 0's sums, then each block's added on. -/
def acc (c : Dev nD) : (n : ℕ) → n < cfg1.N → Vec F S1x416 .f32 × Vec F S1x416 .f32
  | 0, h => (k1_pay2 (xBlk W c ⟨0, h⟩), k1_pay3 (xBlk W c ⟨0, h⟩))
  | n + 1, h =>
    (k1_pay4 (xBlk W c ⟨n + 1, h⟩) (acc c n (Nat.lt_of_succ_lt h)).1,
     k1_pay5 (xBlk W c ⟨n + 1, h⟩) (acc c n (Nat.lt_of_succ_lt h)).2)

/-- The pipeline's proof data: the block of rows is left as found, the accumulators hold `acc`, nothing is owed. -/
def sDat (c : Dev nD) : PDat F cfg1 c where
  A w := W c (Pipeline.arrRef spec1 w)
  after w t := match w with
    | ⟨0, _⟩ => xBlk W c t
    | ⟨1, _⟩ => (acc W c t.val t.isLt).1
    | ⟨2, _⟩ => (acc W c t.val t.isLt).2
  Φ _ := Pipeline.scopedRest spec1 c
  q _ := fullShare
  owed _ := 0
  recorded _ := past (F := F) c

theorem sDat_A (c : Dev nD) (w : Fin cfg1.W) : (sDat W c).A w = W c (Pipeline.arrRef spec1 w) := by dsimp only [sDat]
theorem sAfter0 (c : Dev nD) (t : Fin cfg1.N) : (sDat W c).after 0 t = xBlk W c t := by dsimp only [sDat]
theorem sAfter1 (c : Dev nD) (t : Fin cfg1.N) : (sDat W c).after 1 t = (acc W c t.val t.isLt).1 := by dsimp only [sDat]
theorem sAfter2 (c : Dev nD) (t : Fin cfg1.N) : (sDat W c).after 2 t = (acc W c t.val t.isLt).2 := by dsimp only [sDat]

/-- The row block's buffer holds the block at every point. -/
theorem sBefore0 (c : Dev nD) (t : Fin cfg1.N) (d) : (sDat W c).before 0 t d = xBlk W c t :=
  ((sDat W c).before_in_eq_fetched 0 rfl (fun _ => rfl) (fun _ _ _ => rfl)
    (fun t => by rw [sAfter0]; unfold Dat.blockOf xBlk; rw [sDat_A]) t d).trans
    (by unfold Dat.fetched Dat.blockOf xBlk; rw [sDat_A]; try rfl)

/-! ## When the two branches of the body run -/

theorem first_iff : ∀ t : Fin cfg1.N, k1_cond1 (grid1.coords t) = 1#1 ↔ t.val = 0 :=
  (fun t => by
    have ht : t.val < 8 := Nat.lt_of_lt_of_eq t.isLt N_1
    have e0 : (grid1.coords t 0).val = t.val / 1 % 8 := Pipeline.Grid.coords_val t 0 (by decide) rfl
    simp only [k1_cond1, e0]
    word_cmp
   : ∀ t : Fin grid1.N, k1_cond1 (grid1.coords t) = 1#1 ↔ t.val = 0)

theorem later_iff : ∀ t : Fin cfg1.N, k1_cond2 (grid1.coords t) = 1#1 ↔ 1 ≤ t.val :=
  (fun t => by
    have ht : t.val < 8 := Nat.lt_of_lt_of_eq t.isLt N_1
    have e0 : (grid1.coords t 0).val = t.val / 1 % 8 := Pipeline.Grid.coords_val t 0 (by decide) rfl
    simp only [k1_cond2, e0]
    word_cmp
   : ∀ t : Fin grid1.N, k1_cond2 (grid1.coords t) = 1#1 ↔ 1 ≤ t.val)

/-- An accumulator is stored at every point. -/
theorem live1 : ∀ t : Fin cfg1.N, cfg1.idle 1 (grid1.coords t) = false := by decide +kernel
theorem live2 : ∀ t : Fin cfg1.N, cfg1.idle 2 (grid1.coords t) = false := by decide +kernel

/-- An accumulator's buffer holds nothing of the kernel's before the first point only (and after the last). -/
def freshAt : ℕ → Bool
  | 0 => true
  | n + 1 => n == 7

theorem freshAt_step1 : ∀ t : Fin cfg1.N,
    freshAt (t.val + 1) = ((cfg1.win 1).flush t || (cfg1.idle 1 (cfg1.grid.coords t) && freshAt t.val)) := by decide +kernel
theorem freshAt_step2 : ∀ t : Fin cfg1.N,
    freshAt (t.val + 1) = ((cfg1.win 2).flush t || (cfg1.idle 2 (cfg1.grid.coords t) && freshAt t.val)) := by decide +kernel
theorem fresh1 (t : Fin cfg1.N) : cfg1.fresh 1 t.val = freshAt t.val :=
  Pipeline.Cfg.fresh_tab cfg1 1 freshAt rfl freshAt_step1 t.val (Nat.le_of_lt t.isLt)
theorem fresh2 (t : Fin cfg1.N) : cfg1.fresh 2 t.val = freshAt t.val :=
  Pipeline.Cfg.fresh_tab cfg1 2 freshAt rfl freshAt_step2 t.val (Nat.le_of_lt t.isLt)

theorem freshAt_later (t : Fin cfg1.N) (h : 1 ≤ t.val) : freshAt t.val = false := by
  have ht : t.val < 8 := Nat.lt_of_lt_of_eq t.isLt N_1
  obtain ⟨n, hn⟩ : ∃ n, t.val = n + 1 := ⟨t.val - 1, by omega⟩
  rw [hn]
  show (n == 7) = false
  rw [beq_eq_false_iff_ne]; omega

/-- After the first point an accumulator's buffer still holds what the point before left. -/
theorem sBefore1 (c : Dev nD) (t : Fin cfg1.N) (h : 1 ≤ t.val) (d) :
    (sDat W c).before 1 t d = (acc W c (t.val - 1) (Nat.lt_of_le_of_lt (Nat.sub_le _ _) t.isLt)).1 := by
  rw [Dat.before_out_traj _ 1 rfl (fun _ _ => rfl)
    (fun t _ hi _ => absurd ((live1 t).symm.trans hi) Bool.false_ne_true) t.val t rfl d,
    if_neg (by rw [fresh1 t, freshAt_later t h]; exact Bool.false_ne_true)]
  dsimp only [sDat]
theorem sBefore2 (c : Dev nD) (t : Fin cfg1.N) (h : 1 ≤ t.val) (d) :
    (sDat W c).before 2 t d = (acc W c (t.val - 1) (Nat.lt_of_le_of_lt (Nat.sub_le _ _) t.isLt)).2 := by
  rw [Dat.before_out_traj _ 2 rfl (fun _ _ => rfl)
    (fun t _ hi _ => absurd ((live2 t).symm.trans hi) Bool.false_ne_true) t.val t rfl d,
    if_neg (by rw [fresh2 t, freshAt_later t h]; exact Bool.false_ne_true)]
  dsimp only [sDat]

/-! ## The body on any whole buffers -/

section Body
variable (c : Dev nD) (i : grid1.Coords) (a1 : Memref sig .tc .vmem S2048x416 .f32) (h1 : a1.IsWhole)
  (a2 : Memref sig .tc .vmem S1x416 .f32) (h2 : a2.IsWhole) (a3 : Memref sig .tc .vmem S1x416 .f32) (h3 : a3.IsWhole)
  (x : Vec F S2048x416 .f32)

set_option maxHeartbeats 1000000 in
/-- At the first point the body stores the block's column sums and sums of squares. -/
theorem stats_first (e1 : k1_cond1 i = 1#1) (e2 : ¬k1_cond2 i = 1#1) (Q : PUnit → sProp 𝕄) :
    iprop(owns (c : Thread nD τ) a1 fullShare x ∗ (∃ d, owns (c : Thread nD τ) a2 fullShare d)
      ∗ (∃ d, owns (c : Thread nD τ) a3 fullShare d)
      ∗ (iprop(owns (c : Thread nD τ) a1 fullShare x ∗ owns (c : Thread nD τ) a2 fullShare (k1_pay2 x)
          ∗ owns (c : Thread nD τ) a3 fullShare (k1_pay3 x)) -∗ Q ⟨⟩))
    ⊢ wp frame (wpE (defs₀ (F := F)) 𝒱₀ c none) Set.univ (cc1_body i a1 h1 a2 h2 a3 h3) Q := by
  simp only [cc1_body_eq_skeleton]; unfold cc1_body_skel
  unfold owns
  iintro ⟨⟨%f0, %hf0, H0⟩, ⟨%d1, %f1, -, H1⟩, ⟨%d2, %f2, -, H2⟩, Hk⟩
  sl_exec (disch := first | sl_exact e1 | sl_exact e2)
  sl_step
  iapply Hk
  isplitl [H0]
  · iexists _; isplitr; · ipureintro; exact hf0
    iexact H0
  isplitl [H1]
  · iexists _; isplitr
    swap; · iexact H1
    ipureintro
    rw [View.read_writes_full, View.readAt_full, hf0]
  iexists _; isplitr
  swap; · iexact H2
  ipureintro
  rw [View.read_writes_full, View.readAt_full, hf0]

set_option maxHeartbeats 1000000 in
/-- At a later point it adds the block's column sums and sums of squares to what the buffers hold. -/
theorem stats_later (e1 : ¬k1_cond1 i = 1#1) (e2 : k1_cond2 i = 1#1) (y z : Vec F S1x416 .f32) (Q : PUnit → sProp 𝕄) :
    iprop(owns (c : Thread nD τ) a1 fullShare x ∗ owns (c : Thread nD τ) a2 fullShare y
      ∗ owns (c : Thread nD τ) a3 fullShare z
      ∗ (iprop(owns (c : Thread nD τ) a1 fullShare x ∗ owns (c : Thread nD τ) a2 fullShare (k1_pay4 x y)
          ∗ owns (c : Thread nD τ) a3 fullShare (k1_pay5 x z)) -∗ Q ⟨⟩))
    ⊢ wp frame (wpE (defs₀ (F := F)) 𝒱₀ c none) Set.univ (cc1_body i a1 h1 a2 h2 a3 h3) Q := by
  simp only [cc1_body_eq_skeleton]; unfold cc1_body_skel
  unfold owns
  iintro ⟨⟨%f0, %hf0, H0⟩, ⟨%f1, %hf1, H1⟩, ⟨%f2, %hf2, H2⟩, Hk⟩
  sl_exec (disch := first | sl_exact e1 | sl_exact e2)
  sl_step
  iapply Hk
  isplitl [H0]
  · iexists _; isplitr; · ipureintro; exact hf0
    iexact H0
  isplitl [H1]
  · iexists _; isplitr
    swap; · iexact H1
    ipureintro
    rw [View.read_writes_full, View.readAt_full, View.readAt_full, hf0, hf1]
  iexists _; isplitr
  swap; · iexact H2
  ipureintro
  rw [View.read_writes_full, View.readAt_full, View.readAt_full, hf0, hf2]

end Body

/-! ## The body obligation -/

theorem acc_first (c : Dev nD) (t : Fin cfg1.N) (h : t.val = 0) :
    acc W c t.val t.isLt = (k1_pay2 (xBlk W c t), k1_pay3 (xBlk W c t)) := by
  obtain ⟨n, hn⟩ := t
  cases n with
  | zero => rfl
  | succ n => exact absurd h (Nat.succ_ne_zero n)

theorem acc_later (c : Dev nD) (t : Fin cfg1.N) (h : 1 ≤ t.val) :
    acc W c t.val t.isLt
      = (k1_pay4 (xBlk W c t) (acc W c (t.val - 1) (Nat.lt_of_le_of_lt (Nat.sub_le _ _) t.isLt)).1,
         k1_pay5 (xBlk W c t) (acc W c (t.val - 1) (Nat.lt_of_le_of_lt (Nat.sub_le _ _) t.isLt)).2) := by
  obtain ⟨n, hn⟩ := t
  cases n with
  | zero => exact absurd h (Nat.not_succ_le_zero 0)
  | succ n => rfl

/-- What the body is called with at point `t`, and what it returns. -/
def sPre (c : Dev nD) (t : Fin cfg1.N) : sProp 𝕄 :=
  iprop((sDat W c).Φ t.castSucc ∗ (sDat W c).owesAt none t.castSucc
    ∗ (∃ d, owns (c : Thread nD τ) (st1_0 t) fullShare ((sDat W c).before 0 t d))
    ∗ (∃ d, owns (c : Thread nD τ) (st1_1 t) fullShare ((sDat W c).before 1 t d))
    ∗ (∃ d, owns (c : Thread nD τ) (st1_2 t) fullShare ((sDat W c).before 2 t d)))
def sPost (c : Dev nD) (t : Fin cfg1.N) : sProp 𝕄 :=
  iprop((sDat W c).Φ t.succ ∗ (sDat W c).owesAt none t.succ
    ∗ (sDat W c).leavesExact 0 t ∗ (sDat W c).leavesExact 1 t ∗ (sDat W c).leavesExact 2 t)

set_option maxHeartbeats 800000 in
theorem stats_body (c : Dev nD) (t : Fin cfg1.N) :
    sPre W c t ⊢ wp frame (wpE (defs₀ (F := F)) 𝒱₀ c none) Set.univ (bodyAt1 t) (fun _ => sPost W c t) := by
  unfold sPre sPost bodyAt1
  simp only [sBefore0]
  rw [show (sDat W c).Φ t.succ = (sDat W c).Φ t.castSucc from rfl,
    show (sDat W c).owesAt none t.succ = (sDat W c).owesAt none t.castSucc from rfl,
    show (sDat W c).leavesExact 0 t = owns (c : Thread nD τ) (st1_0 t) fullShare ((sDat W c).after 0 t) from by
      unfold Dat.leavesExact; rw [show cfg1.idle 0 (cfg1.grid.coords t) = false from rfl],
    show (sDat W c).leavesExact 1 t = owns (c : Thread nD τ) (st1_1 t) fullShare ((sDat W c).after 1 t) from by
      unfold Dat.leavesExact; rw [live1 t],
    show (sDat W c).leavesExact 2 t = owns (c : Thread nD τ) (st1_2 t) fullShare ((sDat W c).after 2 t) from by
      unfold Dat.leavesExact; rw [live2 t],
    sAfter0, sAfter1, sAfter2]
  by_cases h : t.val = 0
  · rw [acc_first W c t h]
    iintro ⟨HΦ, Ho, ⟨%d0, H0⟩, ⟨%d1, H1⟩, ⟨%d2, H2⟩⟩
    iapply (stats_first c (grid1.coords t) _ _ _ _ _ _ (xBlk W c t) ((first_iff t).mpr h)
      (fun e => by have := (later_iff t).mp e; omega) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · have h' : 1 ≤ t.val := by omega
    rw [acc_later W c t h']
    simp only [sBefore1 W c t h', sBefore2 W c t h']
    iintro ⟨HΦ, Ho, ⟨%d0, H0⟩, ⟨%d1, H1⟩, ⟨%d2, H2⟩⟩
    iapply (stats_later c (grid1.coords t) _ _ _ _ _ _ (xBlk W c t)
      (fun e => h ((first_iff t).mp e)) ((later_iff t).mpr h') _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem stats_row (t : Fin cfg1.N) :
    defs₀ (F := F) .tc cfg1.body (cfg1.bodyArgs t (cfg1.slots t)) = bodyAt1 t := rfl

/-- The first pipeline's body obligation. -/
theorem stats_obligation (c : Dev nD) : BodyObligation (sDat W c) (defs₀ (F := F)) 𝒱₀ none Set.univ := fun t => by
  rw [bigSep_W1, bigSep_W1, stats_row]
  exact triple_restated (stats_body W c t) rfl .rfl fun _ => .rfl

end Cert.RunIdeal

end
-- ==== Proof.Ideal.Mlp.lean ====
/- The second TensorCore pipeline: normalisation by the column sums, two dense layers with a cut at zero, the last
   product and the logistic function, row block by row block. This module names the block it stores (`mlpOut`) and
   proves the kernel body's triple at every point, at any float instance. -/
module

public import proofs.«01_k».proof.Proof.Ideal.Stats

@[expose] public section

set_option maxRecDepth 16384

noncomputable section

namespace Cert.RunIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The block the body stores, of the eleven blocks it loads: rows, column sums, column sums of squares, the two
    normalisation parameters, then weights and biases in turn. -/
def mlpOut (x : Vec F S2048x416 .f32) (s q g b : Vec F S1x416 .f32) (w₁ : Vec F S416x512 .f32) (b₁ : Vec F S1x512 .f32)
    (w₂ : Vec F S512x256 .f32) (b₂ w₃ : Vec F S1x256 .f32) (b₃ : Vec F S1x1 .f32) : Vec F S2048x1 .f32 :=
  k2_pay1 (k2_pay2 s q g b x w₁ b₁) (k2_pay3 w₂) (constant S2048x256 .f32 0x00000000#32) b₂ w₃ b₃

variable (W : Vals F)

/-- Window `w`'s block at point `t`. -/
def mBlk (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- The block stored at point `t`. -/
def mOut (c : Dev nD) (t : Fin cfg2.N) : Vec F S2048x1 .f32 :=
  mlpOut (mBlk W c 0 t) (mBlk W c 1 t) (mBlk W c 2 t) (mBlk W c 3 t) (mBlk W c 4 t) (mBlk W c 5 t) (mBlk W c 6 t)
    (mBlk W c 7 t) (mBlk W c 8 t) (mBlk W c 9 t) (mBlk W c 10 t)

/-- The pipeline's proof data: the inputs are left as found, the result's block is `mOut`, nothing is owed. -/
def mDat (c : Dev nD) : PDat F cfg2 c where
  A w := W c (Pipeline.arrRef spec2 w)
  after w t := match w with
    | ⟨0, _⟩ => mBlk W c 0 t
    | ⟨1, _⟩ => mBlk W c 1 t
    | ⟨2, _⟩ => mBlk W c 2 t
    | ⟨3, _⟩ => mBlk W c 3 t
    | ⟨4, _⟩ => mBlk W c 4 t
    | ⟨5, _⟩ => mBlk W c 5 t
    | ⟨6, _⟩ => mBlk W c 6 t
    | ⟨7, _⟩ => mBlk W c 7 t
    | ⟨8, _⟩ => mBlk W c 8 t
    | ⟨9, _⟩ => mBlk W c 9 t
    | ⟨10, _⟩ => mBlk W c 10 t
    | ⟨11, _⟩ => mOut W c t
  Φ _ := Pipeline.scopedRest spec2 c
  q _ := fullShare
  owed _ := 0
  recorded _ := past (F := F) c

theorem mDat_A (c : Dev nD) (w : Fin cfg2.W) : (mDat W c).A w = W c (Pipeline.arrRef spec2 w) := by dsimp only [mDat]
theorem mAfter0 (c : Dev nD) (t : Fin cfg2.N) : (mDat W c).after 0 t = mBlk W c 0 t := by dsimp only [mDat]
theorem mAfter1 (c : Dev nD) (t : Fin cfg2.N) : (mDat W c).after 1 t = mBlk W c 1 t := by dsimp only [mDat]
theorem mAfter2 (c : Dev nD) (t : Fin cfg2.N) : (mDat W c).after 2 t = mBlk W c 2 t := by dsimp only [mDat]
theorem mAfter3 (c : Dev nD) (t : Fin cfg2.N) : (mDat W c).after 3 t = mBlk W c 3 t := by dsimp only [mDat]
theorem mAfter4 (c : Dev nD) (t : Fin cfg2.N) : (mDat W c).after 4 t = mBlk W c 4 t := by dsimp only [mDat]
theorem mAfter5 (c : Dev nD) (t : Fin cfg2.N) : (mDat W c).after 5 t = mBlk W c 5 t := by dsimp only [mDat]
theorem mAfter6 (c : Dev nD) (t : Fin cfg2.N) : (mDat W c).after 6 t = mBlk W c 6 t := by dsimp only [mDat]
theorem mAfter7 (c : Dev nD) (t : Fin cfg2.N) : (mDat W c).after 7 t = mBlk W c 7 t := by dsimp only [mDat]
theorem mAfter8 (c : Dev nD) (t : Fin cfg2.N) : (mDat W c).after 8 t = mBlk W c 8 t := by dsimp only [mDat]
theorem mAfter9 (c : Dev nD) (t : Fin cfg2.N) : (mDat W c).after 9 t = mBlk W c 9 t := by dsimp only [mDat]
theorem mAfter10 (c : Dev nD) (t : Fin cfg2.N) : (mDat W c).after 10 t = mBlk W c 10 t := by dsimp only [mDat]
theorem mAfter11 (c : Dev nD) (t : Fin cfg2.N) : (mDat W c).after 11 t = mOut W c t := by dsimp only [mDat]

/-! Each input's buffer holds its block at every point. -/

theorem mBefore0 (c : Dev nD) (t : Fin cfg2.N) (d) : (mDat W c).before 0 t d = mBlk W c 0 t :=
  ((mDat W c).before_in_eq_fetched 0 rfl (fun _ => rfl) (fun _ _ _ => rfl)
    (fun t => by rw [mAfter0]; unfold Dat.blockOf mBlk; rw [mDat_A]; try rfl) t d).trans
    (by unfold Dat.fetched Dat.blockOf mBlk; rw [mDat_A]; try rfl)
theorem mBefore1 (c : Dev nD) (t : Fin cfg2.N) (d) : (mDat W c).before 1 t d = mBlk W c 1 t :=
  ((mDat W c).before_in_eq_fetched 1 rfl (fun _ => rfl) (fun _ _ _ => rfl)
    (fun t => by rw [mAfter1]; unfold Dat.blockOf mBlk; rw [mDat_A]; try rfl) t d).trans
    (by unfold Dat.fetched Dat.blockOf mBlk; rw [mDat_A]; try rfl)
theorem mBefore2 (c : Dev nD) (t : Fin cfg2.N) (d) : (mDat W c).before 2 t d = mBlk W c 2 t :=
  ((mDat W c).before_in_eq_fetched 2 rfl (fun _ => rfl) (fun _ _ _ => rfl)
    (fun t => by rw [mAfter2]; unfold Dat.blockOf mBlk; rw [mDat_A]; try rfl) t d).trans
    (by unfold Dat.fetched Dat.blockOf mBlk; rw [mDat_A]; try rfl)
theorem mBefore3 (c : Dev nD) (t : Fin cfg2.N) (d) : (mDat W c).before 3 t d = mBlk W c 3 t :=
  ((mDat W c).before_in_eq_fetched 3 rfl (fun _ => rfl) (fun _ _ _ => rfl)
    (fun t => by rw [mAfter3]; unfold Dat.blockOf mBlk; rw [mDat_A]; try rfl) t d).trans
    (by unfold Dat.fetched Dat.blockOf mBlk; rw [mDat_A]; try rfl)
theorem mBefore4 (c : Dev nD) (t : Fin cfg2.N) (d) : (mDat W c).before 4 t d = mBlk W c 4 t :=
  ((mDat W c).before_in_eq_fetched 4 rfl (fun _ => rfl) (fun _ _ _ => rfl)
    (fun t => by rw [mAfter4]; unfold Dat.blockOf mBlk; rw [mDat_A]; try rfl) t d).trans
    (by unfold Dat.fetched Dat.blockOf mBlk; rw [mDat_A]; try rfl)
theorem mBefore5 (c : Dev nD) (t : Fin cfg2.N) (d) : (mDat W c).before 5 t d = mBlk W c 5 t :=
  ((mDat W c).before_in_eq_fetched 5 rfl (fun _ => rfl) (fun _ _ _ => rfl)
    (fun t => by rw [mAfter5]; unfold Dat.blockOf mBlk; rw [mDat_A]; try rfl) t d).trans
    (by unfold Dat.fetched Dat.blockOf mBlk; rw [mDat_A]; try rfl)
theorem mBefore6 (c : Dev nD) (t : Fin cfg2.N) (d) : (mDat W c).before 6 t d = mBlk W c 6 t :=
  ((mDat W c).before_in_eq_fetched 6 rfl (fun _ => rfl) (fun _ _ _ => rfl)
    (fun t => by rw [mAfter6]; unfold Dat.blockOf mBlk; rw [mDat_A]; try rfl) t d).trans
    (by unfold Dat.fetched Dat.blockOf mBlk; rw [mDat_A]; try rfl)
theorem mBefore7 (c : Dev nD) (t : Fin cfg2.N) (d) : (mDat W c).before 7 t d = mBlk W c 7 t :=
  ((mDat W c).before_in_eq_fetched 7 rfl (fun _ => rfl) (fun _ _ _ => rfl)
    (fun t => by rw [mAfter7]; unfold Dat.blockOf mBlk; rw [mDat_A]; try rfl) t d).trans
    (by unfold Dat.fetched Dat.blockOf mBlk; rw [mDat_A]; try rfl)
theorem mBefore8 (c : Dev nD) (t : Fin cfg2.N) (d) : (mDat W c).before 8 t d = mBlk W c 8 t :=
  ((mDat W c).before_in_eq_fetched 8 rfl (fun _ => rfl) (fun _ _ _ => rfl)
    (fun t => by rw [mAfter8]; unfold Dat.blockOf mBlk; rw [mDat_A]; try rfl) t d).trans
    (by unfold Dat.fetched Dat.blockOf mBlk; rw [mDat_A]; try rfl)
theorem mBefore9 (c : Dev nD) (t : Fin cfg2.N) (d) : (mDat W c).before 9 t d = mBlk W c 9 t :=
  ((mDat W c).before_in_eq_fetched 9 rfl (fun _ => rfl) (fun _ _ _ => rfl)
    (fun t => by rw [mAfter9]; unfold Dat.blockOf mBlk; rw [mDat_A]; try rfl) t d).trans
    (by unfold Dat.fetched Dat.blockOf mBlk; rw [mDat_A]; try rfl)
theorem mBefore10 (c : Dev nD) (t : Fin cfg2.N) (d) : (mDat W c).before 10 t d = mBlk W c 10 t :=
  ((mDat W c).before_in_eq_fetched 10 rfl (fun _ => rfl) (fun _ _ _ => rfl)
    (fun t => by rw [mAfter10]; unfold Dat.blockOf mBlk; rw [mDat_A]; try rfl) t d).trans
    (by unfold Dat.fetched Dat.blockOf mBlk; rw [mDat_A]; try rfl)

/-! ## The body on any whole buffers -/

section Body
variable (c : Dev nD) (i : grid2.Coords)
  (a0 : Memref sig .tc .vmem S2048x416 .f32) (h0 : a0.IsWhole)
  (a1 : Memref sig .tc .vmem S1x416 .f32) (h1 : a1.IsWhole)
  (a2 : Memref sig .tc .vmem S1x416 .f32) (h2 : a2.IsWhole)
  (a3 : Memref sig .tc .vmem S1x416 .f32) (h3 : a3.IsWhole)
  (a4 : Memref sig .tc .vmem S1x416 .f32) (h4 : a4.IsWhole)
  (a5 : Memref sig .tc .vmem S416x512 .f32) (h5 : a5.IsWhole)
  (a6 : Memref sig .tc .vmem S1x512 .f32) (h6 : a6.IsWhole)
  (a7 : Memref sig .tc .vmem S512x256 .f32) (h7 : a7.IsWhole)
  (a8 : Memref sig .tc .vmem S1x256 .f32) (h8 : a8.IsWhole)
  (a9 : Memref sig .tc .vmem S1x256 .f32) (h9 : a9.IsWhole)
  (a10 : Memref sig .tc .vmem S1x1 .f32) (h10 : a10.IsWhole)
  (a11 : Memref sig .tc .vmem S2048x1 .f32) (h11 : a11.IsWhole)
  (x0 : Vec F S2048x416 .f32)
  (x1 : Vec F S1x416 .f32)
  (x2 : Vec F S1x416 .f32)
  (x3 : Vec F S1x416 .f32)
  (x4 : Vec F S1x416 .f32)
  (x5 : Vec F S416x512 .f32)
  (x6 : Vec F S1x512 .f32)
  (x7 : Vec F S512x256 .f32)
  (x8 : Vec F S1x256 .f32)
  (x9 : Vec F S1x256 .f32)
  (x10 : Vec F S1x1 .f32)

set_option maxHeartbeats 4000000 in
theorem mlp_run (Q : PUnit → sProp 𝕄) :
    iprop(owns (c : Thread nD τ) a0 fullShare x0
      ∗ owns (c : Thread nD τ) a1 fullShare x1
      ∗ owns (c : Thread nD τ) a2 fullShare x2
      ∗ owns (c : Thread nD τ) a3 fullShare x3
      ∗ owns (c : Thread nD τ) a4 fullShare x4
      ∗ owns (c : Thread nD τ) a5 fullShare x5
      ∗ owns (c : Thread nD τ) a6 fullShare x6
      ∗ owns (c : Thread nD τ) a7 fullShare x7
      ∗ owns (c : Thread nD τ) a8 fullShare x8
      ∗ owns (c : Thread nD τ) a9 fullShare x9
      ∗ owns (c : Thread nD τ) a10 fullShare x10
      ∗ (∃ d, owns (c : Thread nD τ) a11 fullShare d)
      ∗ (iprop(owns (c : Thread nD τ) a0 fullShare x0
      ∗ owns (c : Thread nD τ) a1 fullShare x1
      ∗ owns (c : Thread nD τ) a2 fullShare x2
      ∗ owns (c : Thread nD τ) a3 fullShare x3
      ∗ owns (c : Thread nD τ) a4 fullShare x4
      ∗ owns (c : Thread nD τ) a5 fullShare x5
      ∗ owns (c : Thread nD τ) a6 fullShare x6
      ∗ owns (c : Thread nD τ) a7 fullShare x7
      ∗ owns (c : Thread nD τ) a8 fullShare x8
      ∗ owns (c : Thread nD τ) a9 fullShare x9
      ∗ owns (c : Thread nD τ) a10 fullShare x10
      ∗ owns (c : Thread nD τ) a11 fullShare (mlpOut x0 x1 x2 x3 x4 x5 x6 x7 x8 x9 x10)) -∗ Q ⟨⟩))
    ⊢ wp frame (wpE (defs₀ (F := F)) 𝒱₀ c none) Set.univ (cc2_body i a0 h0 a1 h1 a2 h2 a3 h3 a4 h4 a5 h5 a6 h6 a7 h7 a8 h8 a9 h9 a10 h10 a11 h11) Q := by
  simp only [cc2_body_eq_skeleton]; unfold cc2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  simp only [k2_part1_eq_skeleton]; unfold k2_part1_skel
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  iexists _; isplitr
  swap; · iexact H11
  ipureintro
  rw [View.read_writes_full]
  rw [View.readAt_full a0.view f0, hf0,
    View.readAt_full a1.view f1, hf1,
    View.readAt_full a2.view f2, hf2,
    View.readAt_full a3.view f3, hf3,
    View.readAt_full a4.view f4, hf4,
    View.readAt_full a5.view f5, hf5,
    View.readAt_full a6.view f6, hf6,
    View.readAt_full a7.view f7, hf7,
    View.readAt_full a8.view f8, hf8,
    View.readAt_full a9.view f9, hf9,
    View.readAt_full a10.view f10, hf10]
  rfl

end Body

/-! ## The body obligation -/

def mPre (c : Dev nD) (t : Fin cfg2.N) : sProp 𝕄 :=
  iprop((mDat W c).Φ t.castSucc ∗ (mDat W c).owesAt none t.castSucc
    ∗ (∃ d, owns (c : Thread nD τ) (st2_0 t) fullShare ((mDat W c).before 0 t d))
    ∗ (∃ d, owns (c : Thread nD τ) (st2_1 t) fullShare ((mDat W c).before 1 t d))
    ∗ (∃ d, owns (c : Thread nD τ) (st2_2 t) fullShare ((mDat W c).before 2 t d))
    ∗ (∃ d, owns (c : Thread nD τ) (st2_3 t) fullShare ((mDat W c).before 3 t d))
    ∗ (∃ d, owns (c : Thread nD τ) (st2_4 t) fullShare ((mDat W c).before 4 t d))
    ∗ (∃ d, owns (c : Thread nD τ) (st2_5 t) fullShare ((mDat W c).before 5 t d))
    ∗ (∃ d, owns (c : Thread nD τ) (st2_6 t) fullShare ((mDat W c).before 6 t d))
    ∗ (∃ d, owns (c : Thread nD τ) (st2_7 t) fullShare ((mDat W c).before 7 t d))
    ∗ (∃ d, owns (c : Thread nD τ) (st2_8 t) fullShare ((mDat W c).before 8 t d))
    ∗ (∃ d, owns (c : Thread nD τ) (st2_9 t) fullShare ((mDat W c).before 9 t d))
    ∗ (∃ d, owns (c : Thread nD τ) (st2_10 t) fullShare ((mDat W c).before 10 t d))
    ∗ (∃ d, owns (c : Thread nD τ) (st2_11 t) fullShare ((mDat W c).before 11 t d)))
def mPost (c : Dev nD) (t : Fin cfg2.N) : sProp 𝕄 :=
  iprop((mDat W c).Φ t.succ ∗ (mDat W c).owesAt none t.succ
    ∗ (mDat W c).leavesExact 0 t
    ∗ (mDat W c).leavesExact 1 t
    ∗ (mDat W c).leavesExact 2 t
    ∗ (mDat W c).leavesExact 3 t
    ∗ (mDat W c).leavesExact 4 t
    ∗ (mDat W c).leavesExact 5 t
    ∗ (mDat W c).leavesExact 6 t
    ∗ (mDat W c).leavesExact 7 t
    ∗ (mDat W c).leavesExact 8 t
    ∗ (mDat W c).leavesExact 9 t
    ∗ (mDat W c).leavesExact 10 t
    ∗ (mDat W c).leavesExact 11 t)

set_option maxHeartbeats 2000000 in
theorem mlp_body (c : Dev nD) (t : Fin cfg2.N) :
    mPre W c t ⊢ wp frame (wpE (defs₀ (F := F)) 𝒱₀ c none) Set.univ (bodyAt2 t) (fun _ => mPost W c t) := by
  unfold mPre mPost bodyAt2
  simp only [mBefore0, mBefore1, mBefore2, mBefore3, mBefore4, mBefore5, mBefore6, mBefore7, mBefore8, mBefore9, mBefore10]
  rw [show (mDat W c).Φ t.succ = (mDat W c).Φ t.castSucc from rfl,
    show (mDat W c).owesAt none t.succ = (mDat W c).owesAt none t.castSucc from rfl,
    show (mDat W c).leavesExact 0 t = owns (c : Thread nD τ) (st2_0 t) fullShare ((mDat W c).after 0 t) from rfl,
    show (mDat W c).leavesExact 1 t = owns (c : Thread nD τ) (st2_1 t) fullShare ((mDat W c).after 1 t) from rfl,
    show (mDat W c).leavesExact 2 t = owns (c : Thread nD τ) (st2_2 t) fullShare ((mDat W c).after 2 t) from rfl,
    show (mDat W c).leavesExact 3 t = owns (c : Thread nD τ) (st2_3 t) fullShare ((mDat W c).after 3 t) from rfl,
    show (mDat W c).leavesExact 4 t = owns (c : Thread nD τ) (st2_4 t) fullShare ((mDat W c).after 4 t) from rfl,
    show (mDat W c).leavesExact 5 t = owns (c : Thread nD τ) (st2_5 t) fullShare ((mDat W c).after 5 t) from rfl,
    show (mDat W c).leavesExact 6 t = owns (c : Thread nD τ) (st2_6 t) fullShare ((mDat W c).after 6 t) from rfl,
    show (mDat W c).leavesExact 7 t = owns (c : Thread nD τ) (st2_7 t) fullShare ((mDat W c).after 7 t) from rfl,
    show (mDat W c).leavesExact 8 t = owns (c : Thread nD τ) (st2_8 t) fullShare ((mDat W c).after 8 t) from rfl,
    show (mDat W c).leavesExact 9 t = owns (c : Thread nD τ) (st2_9 t) fullShare ((mDat W c).after 9 t) from rfl,
    show (mDat W c).leavesExact 10 t = owns (c : Thread nD τ) (st2_10 t) fullShare ((mDat W c).after 10 t) from rfl,
    show (mDat W c).leavesExact 11 t = owns (c : Thread nD τ) (st2_11 t) fullShare ((mDat W c).after 11 t) from rfl,
    mAfter0, mAfter1, mAfter2, mAfter3, mAfter4, mAfter5, mAfter6, mAfter7, mAfter8, mAfter9, mAfter10, mAfter11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (mlp_run c (grid2.coords t) _ _ _ _ _ _ _ _ _ _ _ _ _ _ _ _ _ _ _ _ _ _ _ _  (mBlk W c 0 t) (mBlk W c 1 t) (mBlk W c 2 t) (mBlk W c 3 t) (mBlk W c 4 t) (mBlk W c 5 t) (mBlk W c 6 t) (mBlk W c 7 t) (mBlk W c 8 t) (mBlk W c 9 t) (mBlk W c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold mOut
  iexact H11

theorem mlp_row (t : Fin cfg2.N) :
    defs₀ (F := F) .tc cfg2.body (cfg2.bodyArgs t (cfg2.slots t)) = bodyAt2 t := rfl

/-- The second pipeline's body obligation. -/
theorem mlp_obligation (c : Dev nD) : BodyObligation (mDat W c) (defs₀ (F := F)) 𝒱₀ none Set.univ := fun t => by
  rw [bigSep_W2, bigSep_W2, mlp_row]
  exact triple_restated (mlp_body W c t) rfl .rfl fun _ => .rfl

end Cert.RunIdeal

end
-- ==== Proof.Ideal.Host.lean ====
/- The host's part of the program: the four stretches of host operations between the calls, the whole of @main as
   stretches and calls, and what the TensorCore's arrays hold between them, as a function of the launch memory. -/
module

public import proofs.«01_k».proof.Proof.Ideal.Mlp

@[expose] public section

set_option maxRecDepth 16384

noncomputable section

namespace Cert.RunIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held wp_seq)

variable {F : FTy → Type} [FloatOps F]

local notation "𝕄" => MT nD τ sig (HIx 1) (Elt F) ℕ UU ℕ

/-! ## The stretches -/

/-- Host operations, stretch 1: the row numbers and the flat table. -/
def ops1 : List (HloOp τ sig (Elt F)) :=
  [ StableHlo.nullary main_c (constantI S_ 32 0#32),
    StableHlo.nullary main_c_0 (constantI S_ 32 99999#32),
    StableHlo.TRef.unary (StableHlo.TRef.of (T := ⟨S_, .i32⟩) main_c) (StableHlo.TRef.of (T := ⟨S_, .i32⟩) main_call0_v0) id,
    StableHlo.TRef.unary (StableHlo.TRef.of (T := ⟨S_, .i32⟩) main_call0_v0) (StableHlo.TRef.of (T := ⟨S16384x26, .i32⟩) main_call0_v1) (broadcastInDim S16384x26 ![] bcast_S_S16384x26),
    StableHlo.TRef.binary (StableHlo.TRef.of (T := ⟨S16384x26, .i32⟩) main_call0_v1) (StableHlo.TRef.of (T := ⟨S16384x26, .i32⟩) main_arg0) (StableHlo.TRef.of (T := ⟨S16384x26, .i32⟩) main_call0_v2) maxsi,
    StableHlo.TRef.unary (StableHlo.TRef.of (T := ⟨S_, .i32⟩) main_c_0) (StableHlo.TRef.of (T := ⟨S_, .i32⟩) main_call0_v3) id,
    StableHlo.TRef.unary (StableHlo.TRef.of (T := ⟨S_, .i32⟩) main_call0_v3) (StableHlo.TRef.of (T := ⟨S16384x26, .i32⟩) main_call0_v4) (broadcastInDim S16384x26 ![] bcast_S_S16384x26),
    StableHlo.TRef.binary (StableHlo.TRef.of (T := ⟨S16384x26, .i32⟩) main_call0_v4) (StableHlo.TRef.of (T := ⟨S16384x26, .i32⟩) main_call0_v2) (StableHlo.TRef.of (T := ⟨S16384x26, .i32⟩) main_v0) minsi,
    StableHlo.nullary main_v1 (iotaInDim S26 32 0),
    StableHlo.unary main_v1 main_v2 (broadcastInDim S1x26 ![1] bcast_S26_S1x26_1 : (⟨S26, .i32⟩ : BufTy).Contents (Elt F) → (⟨S1x26, .i32⟩ : BufTy).Contents (Elt F)),
    StableHlo.nullary main_c_1 (constantI S_ 32 100000#32),
    StableHlo.unary main_c_1 main_v3 (broadcastInDim S1x26 ![] bcast_S_S1x26 : (⟨S_, .i32⟩ : BufTy).Contents (Elt F) → (⟨S1x26, .i32⟩ : BufTy).Contents (Elt F)),
    StableHlo.binary main_v2 main_v3 main_v4 (muli : (⟨S1x26, .i32⟩ : BufTy).Contents (Elt F) → (⟨S1x26, .i32⟩ : BufTy).Contents (Elt F) → (⟨S1x26, .i32⟩ : BufTy).Contents (Elt F)),
    StableHlo.unary main_v4 main_v5 (broadcastInDim S16384x26 ![0, 1] bcast_S1x26_S16384x26_0_1 : (⟨S1x26, .i32⟩ : BufTy).Contents (Elt F) → (⟨S16384x26, .i32⟩ : BufTy).Contents (Elt F)),
    StableHlo.binary main_v0 main_v5 main_v6 (addi : (⟨S16384x26, .i32⟩ : BufTy).Contents (Elt F) → (⟨S16384x26, .i32⟩ : BufTy).Contents (Elt F) → (⟨S16384x26, .i32⟩ : BufTy).Contents (Elt F)),
    StableHlo.reshape main_v6 main_v7 (rfl : (.i32 : EltTy) = .i32) shapeCasts_S16384x26_S425984,
    StableHlo.reshape main_arg1 main_v8 (rfl : (.f32 : EltTy) = .f32) shapeCasts_S26x100000x16_S2600000x16 ]

/-- Host operations, stretch 2: the gathered rows as a matrix. -/
def ops2 : List (HloOp τ sig (Elt F)) :=
  [ StableHlo.reshape main_v9 main_v10 (rfl : (.f32 : EltTy) = .f32) shapeCasts_S425984x16_S16384x416 ]

/-- Host operations, stretch 3: the parameters as the second pipeline takes them. -/
def ops3 : List (HloOp τ sig (Elt F)) :=
  [ StableHlo.reshape main_arg2 main_v12 (rfl : (.f32 : EltTy) = .f32) shapeCasts_S416_S1x416,
    StableHlo.reshape main_arg3 main_v13 (rfl : (.f32 : EltTy) = .f32) shapeCasts_S416_S1x416,
    StableHlo.unary main_arg4 main_v14 ((transpose S416x512 [1, 0] · transposes_S512x416_S416x512_1_0) : (⟨S512x416, .f32⟩ : BufTy).Contents (Elt F) → (⟨S416x512, .f32⟩ : BufTy).Contents (Elt F)),
    StableHlo.reshape main_arg5 main_v15 (rfl : (.f32 : EltTy) = .f32) shapeCasts_S512_S1x512,
    StableHlo.unary main_arg6 main_v16 ((transpose S512x256 [1, 0] · transposes_S256x512_S512x256_1_0) : (⟨S256x512, .f32⟩ : BufTy).Contents (Elt F) → (⟨S512x256, .f32⟩ : BufTy).Contents (Elt F)),
    StableHlo.reshape main_arg7 main_v17 (rfl : (.f32 : EltTy) = .f32) shapeCasts_S256_S1x256,
    StableHlo.reshape main_arg9 main_v18 (rfl : (.f32 : EltTy) = .f32) shapeCasts_S1_S1x1 ]

/-- Host operations, stretch 4: the result as a vector. -/
def ops4 : List (HloOp τ sig (Elt F)) :=
  [ StableHlo.reshape main_v19 main_v20 (rfl : (.f32 : EltTy) = .f32) shapeCasts_S16384x1_S16384 ]

theorem main_eq (d : Dev nD) : main (F := F) d = (seq ops1 >>= fun _ => (K (F := F)).run d 0 >>= fun _ =>
    seq ops2 >>= fun _ => Prog.lift (.customCall (SparseCore.inner (Pipeline.entry 0)) ()) >>= fun _ =>
    seq ops3 >>= fun _ => Prog.lift (.customCall (SparseCore.inner (Pipeline.entry 1)) ()) >>= fun _ =>
    seq ops4 >>= fun _ => pure ⟨⟩) := rfl

open Idealize.ShloMosaic.StableHlo (nullary_bufs_sub unary_bufs_sub binary_bufs_sub reshape_bufs_sub)

theorem ops1_sub : ∀ op ∈ (ops1 : List (HloOp τ sig (Elt F))), op.bufs ⊆ Pipeline.ucRefs τ sig := by
  intro op h
  refine Pipeline.sub_ucRefs op (?_)
  revert op
  exact List.forall_iff_forall_mem.mp ⟨nullary_bufs_sub .., nullary_bufs_sub .., unary_bufs_sub .., unary_bufs_sub ..,
    binary_bufs_sub .., unary_bufs_sub .., unary_bufs_sub .., binary_bufs_sub .., nullary_bufs_sub .., unary_bufs_sub ..,
    nullary_bufs_sub .., unary_bufs_sub .., binary_bufs_sub .., unary_bufs_sub .., binary_bufs_sub .., reshape_bufs_sub ..,
    reshape_bufs_sub ..⟩

theorem ops2_sub : ∀ op ∈ (ops2 : List (HloOp τ sig (Elt F))), op.bufs ⊆ Pipeline.ucRefs τ sig := by
  intro op h
  refine Pipeline.sub_ucRefs op (?_)
  revert op
  exact List.forall_iff_forall_mem.mp (reshape_bufs_sub ..)

theorem ops3_sub : ∀ op ∈ (ops3 : List (HloOp τ sig (Elt F))), op.bufs ⊆ Pipeline.ucRefs τ sig := by
  intro op h
  refine Pipeline.sub_ucRefs op (?_)
  revert op
  exact List.forall_iff_forall_mem.mp ⟨reshape_bufs_sub .., reshape_bufs_sub .., unary_bufs_sub .., reshape_bufs_sub ..,
    unary_bufs_sub .., reshape_bufs_sub .., reshape_bufs_sub ..⟩

theorem ops4_sub : ∀ op ∈ (ops4 : List (HloOp τ sig (Elt F))), op.bufs ⊆ Pipeline.ucRefs τ sig := by
  intro op h
  refine Pipeline.sub_ucRefs op (?_)
  revert op
  exact List.forall_iff_forall_mem.mp (reshape_bufs_sub ..)

theorem ops1_fresh : ∀ op ∈ (ops1 : List (HloOp τ sig (Elt F))), op.fresh = ∅ :=
  List.forall_iff_forall_mem.mp ⟨rfl, rfl, rfl, rfl, rfl, rfl, rfl, rfl, rfl, rfl, rfl, rfl, rfl, rfl, rfl, rfl, rfl⟩
theorem ops2_fresh : ∀ op ∈ (ops2 : List (HloOp τ sig (Elt F))), op.fresh = ∅ := List.forall_iff_forall_mem.mp rfl
theorem ops3_fresh : ∀ op ∈ (ops3 : List (HloOp τ sig (Elt F))), op.fresh = ∅ :=
  List.forall_iff_forall_mem.mp ⟨rfl, rfl, rfl, rfl, rfl, rfl, rfl⟩
theorem ops4_fresh : ∀ op ∈ (ops4 : List (HloOp τ sig (Elt F))), op.fresh = ∅ := List.forall_iff_forall_mem.mp rfl

/-! ## The arrays between the calls -/

variable (m : (ℓ : Loc nD τ sig) → Buf (Elt F) ℓ)

/-- A valuation of each device's buffers, as the pipelines' data take it. -/
abbrev vals (U : Dev nD → Valuation τ sig (Elt F)) : Vals F := fun c b => U c (Proc.devRef .tc b)

/-- At the launch. -/
def V0 (d : Dev nD) : Valuation τ sig (Elt F) := fun b => m (d, b)
/-- Before the SparseCore call. -/
def V1 (d : Dev nD) : Valuation τ sig (Elt F) := after ops1 (V0 m d)
/-- The row numbers the tiles read. -/
def ixOf (d : Dev nD) : Buf (Elt F) (iLoc d) := V1 m d (Proc.devRef .tc main_v7)
/-- The table the tiles read. -/
def tbOf (d : Dev nD) : Buf (Elt F) (xLoc d) := V1 m d (Proc.devRef .tc main_v8)
/-- After the SparseCore call: the gathered rows. -/
def V2 (d : Dev nD) : Valuation τ sig (Elt F) :=
  Function.update (V1 m d) (Proc.devRef .tc main_v9) (gathered (ixOf m d) (tbOf m d))
/-- Before the first pipeline. -/
def V3 (d : Dev nD) : Valuation τ sig (Elt F) := after ops2 (V2 m d)
/-- The first pipeline's data. -/
abbrev dat1 (d : Dev nD) : PDat F cfg1 d := sDat (vals (V3 m)) d
/-- After the first pipeline: the two rows of sums. -/
def V4 (d : Dev nD) : Valuation τ sig (Elt F) :=
  Function.update (Function.update (V3 m d) (Proc.devRef .tc main_v11_0) ((dat1 m d).arrAt 1 cfg1.N))
    (Proc.devRef .tc main_v11_1) ((dat1 m d).arrAt 2 cfg1.N)
/-- Before the second pipeline. -/
def V5 (d : Dev nD) : Valuation τ sig (Elt F) := after ops3 (V4 m d)
/-- The second pipeline's data. -/
abbrev dat2 (d : Dev nD) : PDat F cfg2 d := mDat (vals (V5 m)) d
/-- After the second pipeline: the result as a column. -/
def V6 (d : Dev nD) : Valuation τ sig (Elt F) :=
  Function.update (V5 m d) (Proc.devRef .tc main_v19) ((dat2 m d).arrAt 11 cfg2.N)
/-- At the end. -/
def V7 (d : Dev nD) : Valuation τ sig (Elt F) := after ops4 (V6 m d)

end Cert.RunIdeal
-- ==== Proof.Ideal.HostRead.lean ====
/- What the host's stretches compute: the row numbers as words, their range, and the arrays the program leaves alone. -/
module

public import proofs.«01_k».proof.Proof.Ideal.Host

@[expose] public section

set_option maxRecDepth 16384

noncomputable section

namespace Cert.RunIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held wp_seq)

variable {F : FTy → Type} [FloatOps F]

local notation "𝕄" => MT nD τ sig (HIx 1) (Elt F) ℕ UU ℕ

variable (m : (ℓ : Loc nD τ sig) → Buf (Elt F) ℓ)

/-- The clipped row numbers. -/
def clipped (x : S16384x26.Idx → BitVec 32) : S16384x26.Idx → BitVec 32 :=
  minsi (broadcastInDim S16384x26 ![] bcast_S_S16384x26 (constantI S_ 32 99999#32))
    (maxsi (broadcastInDim S16384x26 ![] bcast_S_S16384x26 (constantI S_ 32 0#32)) x)

/-- The rows of the flat table that the fields' tables begin at. -/
def starts : S16384x26.Idx → BitVec 32 :=
  broadcastInDim S16384x26 ![0, 1] bcast_S1x26_S16384x26_0_1
    (muli (broadcastInDim S1x26 ![1] bcast_S26_S1x26_1 (iotaInDim S26 32 0))
      (broadcastInDim S1x26 ![] bcast_S_S1x26 (constantI S_ 32 100000#32)))

set_option maxHeartbeats 1000000 in
/-- The row numbers the tiles read are the clipped indices plus the starts of their fields' tables. -/
theorem ixOf_eq (d : Dev nD) : ixOf m d
    = shapeCast S425984 (addi (clipped (m (d, Proc.devRef .tc main_arg0))) starts) shapeCasts_S16384x26_S425984 := by
  unfold ixOf V1
  simp only [ops1, StableHlo.TRef.binary, StableHlo.TRef.unary, StableHlo.TRef.toBuf, StableHlo.TRef.ofBuf, cast_eq]
  after_results_simp
  rfl

theorem tbOf_eq (d : Dev nD) : tbOf m d
    = shapeCast S2600000x16 (m (d, Proc.devRef .tc main_arg1)) shapeCasts_S26x100000x16_S2600000x16 := by
  unfold tbOf V1
  simp only [ops1, StableHlo.TRef.binary, StableHlo.TRef.unary, StableHlo.TRef.toBuf, StableHlo.TRef.ofBuf, cast_eq]
  after_results_simp
  rfl

/-! ## The row numbers' range -/

/-- A word clipped into the table's rows. -/
def clipWord (w : BitVec 32) : BitVec 32 := IntOp.minsi 99999#32 (IntOp.maxsi 0#32 w)

theorem clipWord_le (w : BitVec 32) : (clipWord w).toNat ≤ 99999 := by
  unfold clipWord IntOp.minsi IntOp.maxsi
  have h := w.isLt
  simp only [BitVec.slt, decide_eq_true_eq]
  split <;> split <;> simp_all [BitVec.toInt_eq_toNat_cond] <;> omega

theorem clipped_apply (x : S16384x26.Idx → BitVec 32) (j : S16384x26.Idx) : clipped x j = clipWord (x j) := rfl

theorem starts_apply (j : S16384x26.Idx) : starts j = BitVec.ofNat 32 (j 1).val * 100000#32 := rfl

/-- The row number of an index and its field, as a number. -/
theorem rowWord_toNat (x : S16384x26.Idx → BitVec 32) (j : S16384x26.Idx) :
    (addi (clipped x) starts j).toNat = (j 1).val * 100000 + (clipWord (x j)).toNat := by
  change (IntOp.addi (clipped x j) (starts j)).toNat = _
  rw [starts_apply, clipped_apply]
  have h := clipWord_le (x j)
  have h' : (j 1).val < 26 := (j 1).isLt
  simp only [IntOp.addi, BitVec.toNat_add, BitVec.toNat_mul, BitVec.toNat_ofNat]
  omega

/-- Every row number names a row of the flat table. -/
theorem ixOf_inRange : InRange (ixOf m) := by
  intro d n
  rw [ixOf_eq]
  change (addi (clipped (m (d, Proc.devRef .tc main_arg0))) starts (Shape.reshapeEquiv shapeCasts_S16384x26_S425984 (flatIx n))).toNat < _
  rw [rowWord_toNat]
  have h := clipWord_le ((m (d, Proc.devRef .tc main_arg0)) (Shape.reshapeEquiv shapeCasts_S16384x26_S425984 (flatIx n)))
  have h' : ((Shape.reshapeEquiv shapeCasts_S16384x26_S425984 (flatIx n)) 1).val < 26 :=
    ((Shape.reshapeEquiv shapeCasts_S16384x26_S425984 (flatIx n)) 1).isLt
  omega

/-! ## What the program leaves alone -/

/-- What the first stretch writes. -/
abbrev wr1 : List (Ref sig .tc) := [main_c, main_c_0, main_call0_v0, main_call0_v1, main_call0_v2, main_call0_v3,
  main_call0_v4, main_v0, main_v1, main_v2, main_c_1, main_v3, main_v4, main_v5, main_v6, main_v7, main_v8]
/-- What the third stretch writes. -/
abbrev wr3 : List (Ref sig .tc) := [main_v12, main_v13, main_v14, main_v15, main_v16, main_v17, main_v18]
/-- What the program writes. -/
abbrev written : List (Ref sig .tc) :=
  wr1 ++ wr3 ++ [main_v9, main_v10, main_v11_0, main_v11_1, main_v19, main_v20]

theorem ops1_keeps (V : Valuation τ sig (Elt F)) {r : Ref sig .tc} (h : r ∉ wr1) :
    after ops1 V (Proc.devRef .tc r) = V (Proc.devRef .tc r) :=
  StableHlo.after_of_writes_sub ops1 V (StableHlo.forall_writes_sub_of_map rfl) h
theorem ops2_keeps (V : Valuation τ sig (Elt F)) {r : Ref sig .tc} (h : r ∉ [main_v10]) :
    after ops2 V (Proc.devRef .tc r) = V (Proc.devRef .tc r) :=
  StableHlo.after_of_writes_sub ops2 V (StableHlo.forall_writes_sub_of_map rfl) h
theorem ops3_keeps (V : Valuation τ sig (Elt F)) {r : Ref sig .tc} (h : r ∉ wr3) :
    after ops3 V (Proc.devRef .tc r) = V (Proc.devRef .tc r) :=
  StableHlo.after_of_writes_sub ops3 V (StableHlo.forall_writes_sub_of_map rfl) h
theorem ops4_keeps (V : Valuation τ sig (Elt F)) {r : Ref sig .tc} (h : r ∉ [main_v20]) :
    after ops4 V (Proc.devRef .tc r) = V (Proc.devRef .tc r) :=
  StableHlo.after_of_writes_sub ops4 V (StableHlo.forall_writes_sub_of_map rfl) h

/-- A buffer that the program does not write holds before the second pipeline what it held at the launch. -/
theorem V5_of_unwritten (d : Dev nD) (r : Ref sig .tc) (hr : r ∉ written) :
    V5 m d (Proc.devRef .tc r) = m (d, Proc.devRef .tc r) := by
  simp only [written, List.mem_append, List.mem_cons, List.not_mem_nil, or_false, not_or] at hr
  obtain ⟨⟨h1, h3⟩, n9, n10, n0, n1, n19, n20⟩ := hr
  rw [V5, ops3_keeps _ (by simpa using h3), V4, Function.update_of_ne (StableHlo.devRef_ne_of_ne n1),
    Function.update_of_ne (StableHlo.devRef_ne_of_ne n0), V3, ops2_keeps _ (by simpa using n10), V2,
    Function.update_of_ne (StableHlo.devRef_ne_of_ne n9), V1, ops1_keeps _ (by simpa using h1)]
  rfl

/-- A buffer that the program does not write holds at the end what it held at the launch. -/
theorem V7_of_unwritten (d : Dev nD) (r : Ref sig .tc) (hr : r ∉ written) :
    V7 m d (Proc.devRef .tc r) = m (d, Proc.devRef .tc r) := by
  have h5 := V5_of_unwritten m d r hr
  simp only [written, List.mem_append, List.mem_cons, List.not_mem_nil, or_false, not_or] at hr
  obtain ⟨⟨h1, h3⟩, n9, n10, n0, n1, n19, n20⟩ := hr
  rw [V7, ops4_keeps _ (by simpa using n20), V6, Function.update_of_ne (StableHlo.devRef_ne_of_ne n19), h5]

end Cert.RunIdeal
-- ==== Proof.Ideal.Regions.lean ====
/- The two TensorCore pipelines as regions of @main: what the arrays hold when each is entered and when it is left. -/
module

public import proofs.«01_k».proof.Proof.Ideal.HostRead
public import Idealize.ShloMosaic.Lib.Pipeline.RegionsLoop
public import Idealize.ShloMosaic.Lib.Pipeline.RegionArrays

@[expose] public section

set_option maxRecDepth 16384

noncomputable section

namespace Cert.RunIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held wp_seq)

variable {F : FTy → Type} [FloatOps F]

local notation "𝕄" => MT nD τ sig (HIx 1) (Elt F) ℕ UU ℕ

variable (m : (ℓ : Loc nD τ sig) → Buf (Elt F) ℓ)

abbrev adm : (p : Fin 2) → (pcfgs (F := F) p).Adm := fun p => (cfgs p).toPCfg_adm

/-- The two pipelines' data. -/
def dats : (p : Fin 2) → (c : Dev nD) → Dat τ (Elt F) (HIx 1) ℕ UU ℕ (Pipeline.pin (pcfgs (F := F)) adm p) c
  | ⟨0, _⟩ => fun c => dat1 m c
  | ⟨1, _⟩ => fun c => dat2 m c

/-- After the SparseCore call the TensorCore owes nothing, and what it has waited for lies at the handshakes' levels. -/
def quiet (d : Dev nD) : sProp 𝕄 :=
  iprop(∃ W, ⌜(K (F := F)).WBelow (SparseCore.T d) W (8 * (inferInstance : SparseCore.Cfg.Blocks 1 1).fst 1)⌝ ∗ owes (SparseCore.T d) 0 W)

theorem quiet_owes (c : Dev nD) (B : Set (SemLoc sig × HIx 1)) :
    quiet (F := F) c ⊢ (Pipeline.owesWithin c 0 (past (F := F) c ∪ B) : sProp 𝕄) := by
  unfold quiet
  iintro ⟨%W, %hW, HO⟩
  iexists W
  isplitr
  · ipureintro
    exact fun p hp => Or.inl (hW p hp)
  · iexact HO

theorem owes_quiet (c : Dev nD) (B : Set (SemLoc sig × HIx 1)) (hB : ∀ p : SemLoc sig × HIx 1, p ∈ B → p.2 = none) :
    (Pipeline.owesWithin c 0 (past (F := F) c ∪ B) : sProp 𝕄) ⊢ quiet (F := F) c := by
  unfold quiet
  iintro ⟨%W, %hW, HO⟩
  iexists W
  isplitr
  · ipureintro
    intro p hp
    rcases hW hp with h | h
    · exact h
    · rw [show p.2 = none from hB p h]
      exact Nat.zero_le _
  · iexact HO

theorem waitPairs_none {Λ : Labels} (cfg : Pipeline.Cfg sig Λ) (p : SemLoc sig × HIx 1)
    (hp : p ∈ cfg.waitPairs (none : HIx 1)) : p.2 = none := by
  obtain ⟨w, s, h⟩ := hp
  rw [h]

theorem V4_of_ne (d : Dev nD) (b : Ref sig .tc) (h0 : b ≠ main_v11_0) (h1 : b ≠ main_v11_1) :
    V4 m d (Proc.devRef .tc b) = V3 m d (Proc.devRef .tc b) := by
  unfold V4
  rw [Function.update_of_ne (StableHlo.devRef_ne_of_ne h1), Function.update_of_ne (StableHlo.devRef_ne_of_ne h0)]

/-- The first row of sums, as the first pipeline leaves it. -/
theorem V4_sum (d : Dev nD) : V4 m d (Proc.devRef .tc main_v11_0) = (dat1 m d).arrAt 1 cfg1.N := by
  unfold V4
  rw [Function.update_of_ne (StableHlo.devRef_ne_of_ne (by decide))]
  exact Function.update_self (Proc.devRef (τ := τ) .tc main_v11_0) ((dat1 m d).arrAt 1 cfg1.N) (V3 m d)

/-- The row of sums of squares, as the first pipeline leaves it. -/
theorem V4_sq (d : Dev nD) : V4 m d (Proc.devRef .tc main_v11_1) = (dat1 m d).arrAt 2 cfg1.N := by
  unfold V4
  exact Function.update_self (Proc.devRef (τ := τ) .tc main_v11_1) ((dat1 m d).arrAt 2 cfg1.N)
    (Function.update (V3 m d) (Proc.devRef .tc main_v11_0) ((dat1 m d).arrAt 1 cfg1.N))

theorem V6_of_ne (d : Dev nD) (b : Ref sig .tc) (h : b ≠ main_v19) :
    V6 m d (Proc.devRef .tc b) = V5 m d (Proc.devRef .tc b) := by
  unfold V6
  rw [Function.update_of_ne (StableHlo.devRef_ne_of_ne h)]

/-- The result as a column, as the second pipeline leaves it. -/
theorem V6_out (d : Dev nD) : V6 m d (Proc.devRef .tc main_v19) = (dat2 m d).arrAt 11 cfg2.N := by
  unfold V6
  exact Function.update_self (Proc.devRef (τ := τ) .tc main_v19) ((dat2 m d).arrAt 11 cfg2.N) (V5 m d)

theorem spec1_in : ∀ w : Fin 3, w = 1 ∨ w = 2 ∨
    ((spec1 w).isOut = false ∧ Pipeline.arrRef spec1 w ≠ main_v11_0 ∧ Pipeline.arrRef spec1 w ≠ main_v11_1) := by decide
theorem spec2_in : ∀ w : Fin 12, w = 11 ∨ ((spec2 w).isOut = false ∧ Pipeline.arrRef spec2 w ≠ main_v19) := by decide

/-- The first pipeline's arrays at its end are those of the valuation after it. -/
theorem arrays1 (d : Dev nD) (w : Fin 3) :
    (dat1 m d).arrAt w cfg1.N = V4 m d (Proc.devRef .tc (Pipeline.arrRef spec1 w)) := by
  rcases spec1_in w with rfl | rfl | ⟨hi, h0, h1⟩
  · exact (V4_sum m d).symm
  · exact (V4_sq m d).symm
  · rw [V4_of_ne m d _ h0 h1]
    exact (Dat.arrAt_in (dat1 m d) w hi _).trans (sDat_A _ d w)

theorem rest1 (d : Dev nD) (b : Ref sig .tc) (h : b ∉ Finset.univ.image (Pipeline.arrRef spec1)) :
    V4 m d (Proc.devRef .tc b) = V3 m d (Proc.devRef .tc b) :=
  V4_of_ne m d b (fun e => h (by rw [e]; exact Finset.mem_image_of_mem (Pipeline.arrRef spec1) (Finset.mem_univ (1 : Fin 3))))
    (fun e => h (by rw [e]; exact Finset.mem_image_of_mem (Pipeline.arrRef spec1) (Finset.mem_univ (2 : Fin 3))))

/-- The second pipeline's arrays at its end are those of the valuation after it. -/
theorem arrays2 (d : Dev nD) (w : Fin 12) :
    (dat2 m d).arrAt w cfg2.N = V6 m d (Proc.devRef .tc (Pipeline.arrRef spec2 w)) := by
  rcases spec2_in w with rfl | ⟨hi, h⟩
  · exact (V6_out m d).symm
  · rw [V6_of_ne m d _ h]
    exact (Dat.arrAt_in (dat2 m d) w hi _).trans (mDat_A _ d w)

theorem rest2 (d : Dev nD) (b : Ref sig .tc) (h : b ∉ Finset.univ.image (Pipeline.arrRef spec2)) :
    V6 m d (Proc.devRef .tc b) = V5 m d (Proc.devRef .tc b) :=
  V6_of_ne m d b (fun e => h (by rw [e]; exact Finset.mem_image_of_mem (Pipeline.arrRef spec2) (Finset.mem_univ (11 : Fin 12))))

/-- Pipeline `p`'s region, from the arrays at `A` to the arrays at `B`, for data that hold every array at the full
    share, read it off `A` at the entry, leave it as `B` says, and keep only the scoped buffers between the points. -/
def region (p : Fin 2) (hp : Pipeline.LaunchFacts (nD := nD) (τ := τ) cfgs p) (A B : Vals F)
    (hbody : ∀ c, Pipeline.BodyObligationLoose (dats m p c) defs₀ 𝒱₀ none Set.univ)
    (hq : ∀ c w, (dats m p c).q w = fullShare) (ho : ∀ c t, (dats m p c).owed t = 0)
    (hr : ∀ c t, (dats m p c).recorded t = past (F := F) c)
    (hΦ : ∀ c t, (dats m p c).Φ t = Pipeline.scopedRest (cfgs p).spec c)
    (hA : ∀ c w, (dats m p c).A w = A c (Pipeline.arrRef (cfgs p).spec w))
    (hB : ∀ c w, (dats m p c).arrAt w (cfgs p).N = B c (Pipeline.arrRef (cfgs p).spec w))
    (hrest : ∀ c b, b ∉ Finset.univ.image (Pipeline.arrRef (cfgs p).spec) → B c b = A c b) :
    Pipeline.RegionSeg (pcfgs (F := F)) adm (dats m) (none : HIx 1) defs₀ 𝒱₀ (K (F := F)).L (K (F := F)).lev p where
  win := hp.win.to₀
  block_pos := hp.block_pos
  stage_whole := hp.stage_whole
  K := PEmpty
  osem := fun k => k.elim
  ho := Pipeline.OwnSemFacts.none _
  hbody := hbody
  hwaits c := Pipeline.hwaits_of_owed_zero (pcfgs (F := F)) adm (dats m) (none : HIx 1) (K (F := F)).L (K (F := F)).lev p ho c
  pre c := iprop(unscopedBufs c (A c) ∗ quiet c)
  post c := iprop(unscopedBufs c (B c) ∗ quiet c)
  X _ := BI.emp
  Y _ := BI.emp
  Z c := Pipeline.unscopedRest (cfgs p).spec c (A c)
  hentry c := by
    refine Entails.trans ?_ fupd_intro
    iintro ⟨⟨Hb, Hq⟩, -, -⟩
    ihave H := (Pipeline.arrays_of_unscopedBufs (pcfgs (F := F)) adm (dats m) (p := p) hp.win hp.arr_whole c
      ((dats m p c).share_full (hq c)) (A c) (hA c)) $$ Hb
    icases H with ⟨Ha, Hr⟩
    isplitl [Ha]; · iexact Ha
    isplitr
    · rw [Pipeline.prefHeld_of_none _ rfl]
      iempintro
    isplitl [Hq]
    · unfold Dat.owesAt Dat.bound
      rw [ho c, hr c]
      iapply (quiet_owes c _) $$ Hq
    isplitr
    · iempintro
    · iexact Hr
  hin c := by
    rw [hΦ]
    iintro ⟨-, -, H⟩
    iexact H
  hout c := by
    rw [hΦ]
    iintro H
    isplitr; · iempintro
    isplitr
    · rw [Pipeline.ownSems0_none]
      iempintro
    iexact H
  hexit c := by
    refine Entails.trans ?_ fupd_intro
    iintro ⟨Ha, Ho, -, Hr⟩
    isplitl [Ha Hr]
    · iapply (Pipeline.unscopedBufs_of_arrays (pcfgs (F := F)) adm (p := p) hp.win hp.arr_whole c (dats m)
        ((dats m p c).share_full (hq c)) (A c) (B c) _ (hB c) (hrest c)) $$ [Ha Hr]
      isplitl [Ha]; · iexact Ha
      iexact Hr
    · unfold Dat.owesAt Dat.bound
      rw [ho c, hr c]
      iapply (owes_quiet c _ (waitPairs_none (Pipeline.pin (pcfgs (F := F)) adm p))) $$ Ho

/-- The first pipeline's region. -/
def seg1 : Pipeline.RegionSeg (pcfgs (F := F)) adm (dats m) (none : HIx 1) defs₀ 𝒱₀ (K (F := F)).L (K (F := F)).lev 0 :=
  region m 0 launch1 (vals (V3 m)) (vals (V4 m)) (fun c => (stats_obligation (vals (V3 m)) c).loose)
    (fun _ _ => rfl) (fun _ _ => rfl) (fun _ _ => rfl) (fun _ _ => rfl) (fun c w => sDat_A (vals (V3 m)) c w)
    (arrays1 m) (rest1 m)

/-- The second pipeline's region. -/
def seg2 : Pipeline.RegionSeg (pcfgs (F := F)) adm (dats m) (none : HIx 1) defs₀ 𝒱₀ (K (F := F)).L (K (F := F)).lev 1 :=
  region m 1 launch2 (vals (V5 m)) (vals (V6 m)) (fun c => (mlp_obligation (vals (V5 m)) c).loose)
    (fun _ _ => rfl) (fun _ _ => rfl) (fun _ _ => rfl) (fun _ _ => rfl) (fun c w => mDat_A (vals (V5 m)) c w)
    (arrays2 m) (rest2 m)

end Cert.RunIdeal
-- ==== Proof.Ideal.Launch.lean ====
/- The whole program's run: the launch's ghost state, @main on the TensorCore with its SparseCore call and its two
   pipelines, and what every unscoped array holds at the end. -/
module

public import proofs.«01_k».proof.Proof.Ideal.Regions

@[expose] public section

set_option maxRecDepth 16384

noncomputable section

namespace Cert.RunIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held wp_seq)

variable {F : FTy → Type} [FloatOps F]

local notation "𝕄" => MT nD τ sig (HIx 1) (Elt F) ℕ UU ℕ

variable (m : (ℓ : Loc nD τ sig) → Buf (Elt F) ℓ) (ρ : Dev nD → PrngReg)

/-- The pipelines' rounds, inside the user algebra. -/
def EP : Emb UP (MT nD τ sig (HIx 1) (Elt F) ℕ UU ℕ) := Emb.inl.trans embR

instance EP_landsIn : (EP : Emb UP 𝕄).LandsIn (upEmb : UEmb _ 𝕄) := by unfold EP; infer_instance

/-- The handshakes' payloads, at what the first stretch leaves. -/
abbrev Pm : (K (F := F)).Pay (nD := nD) (Val := Elt F) (Name := ℕ) (U := UU) := P (ixOf m) (tbOf m)

/-! ## The launch's ghost state -/

/-- The ghost state of the two pipelines on a device. -/
def G (d : Dev nD) : sProp 𝕄 :=
  iprop((bigSep Finset.univ fun p : Fin 2 => Pipeline.cellsGhost cfgs EP p d)
    ∗ bigSep Finset.univ fun p : Fin 2 => Pipeline.toksInit cfgs EP p d)

def u₀ : UU := (initOf (K (F := F)).hsCells (K (F := F)).hsToks,
  (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, Hr⟩
  ihave H2 := (own_pair_emb (embR (τ := τ) (sig := sig) (nD := nD)) (initOf (Pipeline.cells cfgs cellOf_inj) (Pipeline.launchToks cfgs cellOf_inj)) (1 : Counters)) $$ Hr
  icases H2 with ⟨Hp, -⟩
  imod (Pipeline.fund_ghost cfgs (EP (F := F)) cellOf_inj) $$ [Hp] with ⟨Hg, Ht⟩
  · unfold EP
    iexact Hp
  imodintro
  isplitl [HH]; · iexact HH
  isplitl [Hg Ht]
  · unfold G
    rw [bigSep_sep']
    isplitl [Hg]; · iexact Hg
    iexact Ht
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄)
    from bigSep_emp_const _]
  iempintro

/-! ## @main on the TensorCore -/

theorem pair_regions (Φ : Fin 2 → sProp 𝕄) : bigSep Finset.univ Φ = iprop(Φ 0 ∗ Φ 1) := bigSep_fin_two Φ

/-- After the one SparseCore call the TensorCore's state is a quiet one beside what it keeps. -/
theorem tcSt_quiet (d : Dev nD) : ((K (F := F)).tcSt EH d 1 : sProp 𝕄) ⊢ iprop(quiet (F := F) d ∗ (quiet (F := F) d -∗ (K (F := F)).tcSt EH d 1)) := by
  unfold SparseCore.Cfg.tcSt quiet
  rw [(K (F := F)).Otc_end d le_rfl]
  iintro ⟨HO, Hr⟩
  isplitl [HO]; · iexact HO
  iintro HO
  isplitl [HO]; · iexact HO
  iexact Hr

/-- A pipeline's region, called from @main beside the SparseCore's threads. -/
theorem wp_region [∀ e, Nonempty (Elt F e)] (p : Fin 2)
    (R : Pipeline.RegionSeg (pcfgs (F := F)) adm (dats m) (none : HIx 1) defs₀ 𝒱₀ (K (F := F)).L (K (F := F)).lev p)
    (c : Dev nD) (V V' : Valuation τ sig (Elt F))
    (hpre : R.pre c = iprop(unscopedBufs c (fun b => V (Proc.devRef .tc b)) ∗ quiet c))
    (hpost : R.post c = iprop(unscopedBufs c (fun b => V' (Proc.devRef .tc b)) ∗ quiet c)) (Φ : PUnit → sProp 𝕄) :
    iprop((iprop(boundary (SparseCore.T c) ∗ held (SparseCore.T c) (Pipeline.ucRefs τ sig) V' ∗ quiet c) -∗ Φ ⟨⟩)
        ∗ boundary (SparseCore.T c) ∗ (held (SparseCore.T c) (Pipeline.ucRefs τ sig) V ∗ quiet c) ∗ levAts (K (F := F)).L (K (F := F)).lev
        ∗ Pipeline.cellsGhost cfgs EP p c ∗ Pipeline.toksInit cfgs EP p c)
      ⊢ wp frame (wpE ((K (F := F)).defs (D (F := F))) 𝒱 (SparseCore.T c) none) Set.univ
          (Prog.lift (.customCall (SparseCore.inner (Pipeline.entry p)) ())) Φ := by
  rw [show (held (SparseCore.T c) (Pipeline.ucRefs τ sig) V : sProp 𝕄) = unscopedBufs c (fun b => V (Proc.devRef .tc b))
      from (Pipeline.unscopedBufs_held c V).symm,
    show (held (SparseCore.T c) (Pipeline.ucRefs τ sig) V' : sProp 𝕄) = unscopedBufs c (fun b => V' (Proc.devRef .tc b))
      from (Pipeline.unscopedBufs_held c V').symm, ← hpre, ← hpost]
  refine BIBase.Entails.trans ?_ ((K (F := F)).wp_liftProg (D (F := F)) 𝒱 (SparseCore.T c) Set.univ none
    (.op (.customCall (Pipeline.entry p) ()) fun u => .ret u) Φ)
  refine BIBase.Entails.trans ?_ (Pipeline.RegionSeg.wp (pcfgs (F := F)) adm (dats m) (none : HIx 1) cellOf_inj EP defs₀ 𝒱₀ (K (F := F)).L (K (F := F)).lev R c none
    (fun u h => absurd h (Option.not_mem_none u)) (fun u => .ret u) Φ)
  refine sep_mono (wand_mono .rfl ?_) .rfl
  rw [show (.ret ⟨⟩ : Prog (TpuEff nD τ sig (Elt F) (ΛP (F := F)) .tc) PUnit) = pure ⟨⟩ from rfl, wp_pure]
  exact fupd_intro

/-- The three arrays of the SparseCore call. -/
def callRefs : Finset (DevRef τ sig) := {Proc.devRef .tc main_v7, Proc.devRef .tc main_v8, Proc.devRef .tc main_v9}

theorem callRefs_sub : callRefs ⊆ Pipeline.ucRefs τ sig := by
  intro b hb
  simp only [callRefs, Finset.mem_insert, Finset.mem_singleton] at hb
  refine Finset.mem_filter.mpr ?_
  rcases hb with rfl | rfl | rfl <;> exact ⟨StableHlo.devRef_mem_tcRefs _, by decide⟩

theorem held_call (d : Dev nD) (V : Valuation τ sig (Elt F)) : (held (SparseCore.T d) callRefs V : sProp 𝕄)
    = iprop((iLoc d ↦{fullShare} V (Proc.devRef .tc main_v7)) ∗ (xLoc d ↦{fullShare} V (Proc.devRef .tc main_v8)) ∗ oLoc d ↦{fullShare} V (Proc.devRef .tc main_v9)) := by
  unfold held callRefs
  rw [SparseCore.bigSep_insert' (by
      simp only [Finset.mem_insert, Finset.mem_singleton, not_or]
      exact ⟨StableHlo.devRef_ne_of_ne (by decide), StableHlo.devRef_ne_of_ne (by decide)⟩),
    SparseCore.bigSep_insert' (by
      simp only [Finset.mem_singleton]
      exact StableHlo.devRef_ne_of_ne (by decide)), bigSep_singleton]

theorem V2_out (d : Dev nD) : V2 m d (Proc.devRef .tc main_v9) = gathered (ixOf m d) (tbOf m d) := by
  unfold V2
  exact Function.update_self (Proc.devRef (τ := τ) .tc main_v9) (gathered (ixOf m d) (tbOf m d)) (V1 m d)

theorem V2_of_ne (d : Dev nD) (b : DevRef τ sig) (h : b ≠ Proc.devRef .tc main_v9) : V2 m d b = V1 m d b := by
  unfold V2
  rw [Function.update_of_ne h]

/-- The arrays before the SparseCore call are the call's three beside the others. -/
theorem call_in (d : Dev nD) : (held (SparseCore.T d) (Pipeline.ucRefs τ sig) (V1 m d) : sProp 𝕄)
    ⊢ iprop((bigSep Finset.univ fun c => (Pm m).st 0 d c) ∗ held (SparseCore.T d) (Pipeline.ucRefs τ sig \ callRefs) (V1 m d)) := by
  rw [StableHlo.held_sub_split (SparseCore.T d) callRefs_sub, held_call]
  exact sep_mono (starts_of_arrays (ixOf m) (tbOf m) d _) .rfl

/-- The call's three arrays, as the tiles leave them, beside the others are the arrays after the call. -/
theorem call_out (d : Dev nD) :
    iprop((bigSep Finset.univ fun c => (Pm m).dn 0 d c) ∗ held (SparseCore.T d) (Pipeline.ucRefs τ sig \ callRefs) (V1 m d))
      ⊢ (held (SparseCore.T d) (Pipeline.ucRefs τ sig) (V2 m d) : sProp 𝕄) := by
  rw [StableHlo.held_sub_split (SparseCore.T d) callRefs_sub, held_call, V2_out, V2_of_ne m d _ (StableHlo.devRef_ne_of_ne (by decide)),
    V2_of_ne m d _ (StableHlo.devRef_ne_of_ne (by decide)),
    StableHlo.held_congr (SparseCore.T d) (S := Pipeline.ucRefs τ sig \ callRefs) (V := V2 m d) (V' := V1 m d) (fun b hb => V2_of_ne m d b fun e =>
      (Finset.mem_sdiff.mp hb).2 (by rw [e]; simp [callRefs]))]
  exact sep_mono (arrays_of_dones (ixOf m) (tbOf m) d) .rfl

/-- A stretch of host operations, from the arrays before it to the arrays after it. -/
theorem wp_stretch (d : Dev nD) (ops : List (HloOp τ sig (Elt F))) (hs : ∀ op ∈ ops, op.bufs ⊆ Pipeline.ucRefs τ sig)
    (hf : ∀ op ∈ ops, op.fresh = ∅) (V V' : Valuation τ sig (Elt F)) (h : after ops V = V')
    (k : PUnit → Prog (TpuEff nD τ sig (Elt F) (SparseCore.Sig (ΛP (F := F)) 1) .tc) PUnit) (Φ : PUnit → sProp 𝕄) :
    iprop(boundary (SparseCore.T d) ∗ held (SparseCore.T d) (Pipeline.ucRefs τ sig) V)
      ⊢ iprop(((boundary (SparseCore.T d) ∗ held (SparseCore.T d) (Pipeline.ucRefs τ sig) V')
          -∗ wp frame (wpE ((K (F := F)).defs (D (F := F))) 𝒱 (SparseCore.T d) none) Set.univ (k ⟨⟩) Φ)
        -∗ wp frame (wpE ((K (F := F)).defs (D (F := F))) 𝒱 (SparseCore.T d) none) Set.univ (seq ops >>= k) Φ) :=
  h ▸ wp_seq 𝒱 none Set.univ d (Pipeline.ucRefs τ sig) k ops hs hf V

/-- What @main leaves: every unscoped array at its final contents. -/
abbrev FIN (d : Dev nD) : sProp 𝕄 := held (SparseCore.T d) (Pipeline.ucRefs τ sig) (V7 m d)

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_eq, show (unscopedBufs d (fun b => m ((SparseCore.T d).loc b)) : sProp 𝕄) = held (SparseCore.T d) (Pipeline.ucRefs τ sig) (V0 m d)
    from Pipeline.unscopedBufs_held d (V0 m d), pair_regions, pair_regions]
  iintro ⟨#Hctx, Hst, ⟨Hb, Hbufs, Hts, -⟩, ⟨Hg0, Hg1⟩, ⟨Ht0, Ht1⟩⟩
  ihave #Hlev := ((K (F := F)).ctx_levAts κ) $$ Hctx
  iapply (wp_stretch d ops1 ops1_sub ops1_fresh (V0 m d) (V1 m d) rfl _ _) $$ [Hb Hbufs]
  · isplitl [Hb] <;> iassumption
  iintro ⟨Hb, Hbufs⟩
  ihave Hc := (call_in m d) $$ Hbufs
  icases Hc with ⟨Hstart, Hrest⟩
  rw [wp_bind]
  iapply ((K (F := F)).wp_run (D (F := F)) 𝒱 (EH := EH) (P := Pm m) κ d 0)
  isplitr; · iexact Hctx
  isplitl [Hst]; · iexact Hst
  isplitl [Hstart]; · iexact Hstart
  iintro ⟨Hst, Hdn⟩
  ihave Hbufs := (call_out m d) $$ [Hdn Hrest]
  · isplitl [Hdn] <;> iassumption
  ihave Hq := (show (K (F := F)).tcSt EH d ((0 : Fin 1).val + 1) ⊢ _ from tcSt_quiet d) $$ Hst
  icases Hq with ⟨Hq, Hback⟩
  iapply (wp_stretch d ops2 ops2_sub ops2_fresh (V2 m d) (V3 m d) rfl _ _) $$ [Hb Hbufs]
  · isplitl [Hb] <;> iassumption
  iintro ⟨Hb, Hbufs⟩
  rw [wp_bind]
  iapply (wp_region m 0 (seg1 m) d (V3 m d) (V4 m d) rfl rfl)
  isplitr [Hb Hbufs Hq Hg0 Ht0]
  swap
  · isplitl [Hb]; · iexact Hb
    isplitl [Hbufs Hq]
    · isplitl [Hbufs] <;> iassumption
    isplitr; · iexact Hlev
    isplitl [Hg0] <;> iassumption
  iintro ⟨Hb, Hbufs, Hq⟩
  iapply (wp_stretch d ops3 ops3_sub ops3_fresh (V4 m d) (V5 m d) rfl _ _) $$ [Hb Hbufs]
  · isplitl [Hb] <;> iassumption
  iintro ⟨Hb, Hbufs⟩
  rw [wp_bind]
  iapply (wp_region m 1 (seg2 m) d (V5 m d) (V6 m d) rfl rfl)
  isplitr [Hb Hbufs Hq Hg1 Ht1]
  swap
  · isplitl [Hb]; · iexact Hb
    isplitl [Hbufs Hq]
    · isplitl [Hbufs] <;> iassumption
    isplitr; · iexact Hlev
    isplitl [Hg1] <;> iassumption
  iintro ⟨Hb, Hbufs, Hq⟩
  iapply (wp_stretch d ops4 ops4_sub ops4_fresh (V6 m d) (V7 m d) rfl _ _) $$ [Hb Hbufs]
  · isplitl [Hb] <;> iassumption
  iintro ⟨Hb, Hbufs⟩
  rw [wp_pure]
  imodintro
  isplitl [Hq Hback]
  · iapply Hback $$ Hq
  isplitl [Hbufs]; · iexact Hbufs
  isplitl [Hb] <;> iassumption

/-- What a final state's memory holds. -/
def fq (d : Dev nD) (s' : Phys nD τ sig (Elt F)) : Prop := ∀ b ∈ Pipeline.ucRefs τ sig, s'.mem.mem (d, b) = V7 m d b

theorem hfin (d : Dev nD) (s' : Phys nD τ sig (Elt F)) : iprop(FIN m d ∗ SI s') ⊢ (⌜fq m d s'⌝ : sProp 𝕄) := by
  unfold FIN held
  iintro ⟨H, HSI⟩
  ihave Hr := (pointsTo_read_all (Pipeline.ucRefs τ sig) (fun b => ((d, b) : Loc nD τ sig)) (V7 m d) s') $$ [H HSI]
  · isplitl [H] <;> iassumption
  icases Hr with ⟨%h, -⟩
  ipureintro
  exact h

/-- What every run ends with: each unscoped array at its final contents, and every semaphore counter at zero. -/
def QC : PUnit × MemSt nD τ sig (Elt F) → Prop := fun r =>
  (∀ (c : Dev nD), ∀ b ∈ Pipeline.ucRefs τ sig, r.2.mem (c, b) = V7 m c b) ∧ r.2.sem = fun _ => 0

/-- The program's run. -/
theorem run_main [∀ e, Nonempty (Elt F e)] :
    θ_run (defs (F := F)) (threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (ixOf m) (tbOf m) (ixOf_inRange m))
    (fun q _ => match q with | 0 => SparseCore.Cfg.VecSplit.of_plain (vecSplit (ixOf m) (tbOf m)))
    m ρ main G (FIN m) (u₀ (F := F)) (sep_elim_left.trans (hu₀ m)) (hmain m ρ) (fq m) (hfin m) (QC m) (fun _ h hz => ⟨h, hz⟩)

end Cert.RunIdeal
-- ==== Proof.Ideal.Frame.lean ====
/- What the final state holds of an argument: its contents at the start. -/
module

public import proofs.«01_k».proof.Proof.Ideal.Launch

@[expose] public section

set_option maxRecDepth 16384

noncomputable section

namespace Cert.RunIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held wp_seq)

variable {F : FTy → Type} [FloatOps F]

local notation "𝕄" => MT nD τ sig (HIx 1) (Elt F) ℕ UU ℕ

variable (m : (ℓ : Loc nD τ sig) → Buf (Elt F) ℓ)

/-- An unscoped array ends at its final contents. -/
theorem QC_read {r : PUnit × MemSt nD τ sig (Elt F)} (h : QC m r) (c : Dev nD) (b : Ref sig .tc)
    (hb : (Proc.devRef (τ := τ) .tc b).isScoped = false) :
    r.2.mem ((c.tc : Thread nD τ).loc b) = V7 m c (Proc.devRef .tc b) :=
  h.1 c _ (Finset.mem_filter.mpr ⟨StableHlo.devRef_mem_tcRefs _, by simp [hb]⟩)

/-- An unscoped array that nothing writes ends at what it held. -/
theorem QC_kept {r : PUnit × MemSt nD τ sig (Elt F)} (h : QC m r) (c : Dev nD) (b : Ref sig .tc)
    (hb : (Proc.devRef (τ := τ) .tc b).isScoped = false) (hw : b ∉ written) :
    r.2.mem ((c.tc : Thread nD τ).loc b) = m ((c.tc : Thread nD τ).loc b) :=
  (QC_read m h c b hb).trans (V7_of_unwritten m c b hw)

/-- The ten arguments end at what they held. -/
theorem QC_args {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  ⟨QC_kept m h c _ rfl (by decide), QC_kept m h c _ rfl (by decide), QC_kept m h c _ rfl (by decide),
    QC_kept m h c _ rfl (by decide), QC_kept m h c _ rfl (by decide), QC_kept m h c _ rfl (by decide),
    QC_kept m h c _ rfl (by decide), QC_kept m h c _ rfl (by decide), QC_kept m h c _ rfl (by decide),
    QC_kept m h c _ rfl (by decide)⟩

end Cert.RunIdeal
-- ==== Proof.Ideal.Table.lean ====
/- The gathered matrix by its coordinates: element (n, k) is entry k mod 16 of the row that the clipped index of example n
   and field k / 16 names in that field's table. -/
module

public import proofs.«01_k».proof.Proof.Ideal.HostRead
public import Idealize.ShloMosaic.Lib.Pointwise

@[expose] public section

set_option maxRecDepth 16384

noncomputable section

namespace Cert.RunIdeal

open Cert.KernelIdeal Cert.KernelIdeal.Gen

open Idealize.ShloMosaic Idealize.ShloMosaic.TcCoe
open Idealize.ShloMosaic.Pipeline (Dat)
open Idealize.SL.Sem

variable {F : FTy → Type} [FloatOps F]

/-- The field of a column. -/
def fieldOf (k : Fin 416) : Fin 26 := ⟨k.val / 16, by omega⟩
/-- The entry of a row that a column holds. -/
def entryOf (k : Fin 416) : Fin 16 := ⟨k.val % 16, by omega⟩
/-- The clipped index, as a row of one table. -/
def rowWord (w : BitVec 32) : Fin 100000 := ⟨(clipWord w).toNat, by have := clipWord_le w; omega⟩

/-- The matrix of the gathered rows. -/
def elem {α : Type} (x : S16384x26.Idx → BitVec 32) (tab : S26x100000x16.Idx → α) (n : Fin 16384) (k : Fin 416) : α :=
  tab (ix3 (fieldOf k) (rowWord (x (ix2 n (fieldOf k)))) (entryOf k))

theorem flatIx_eq (n : Fin 425984) : flatIx n = ix1 n := by
  funext a
  obtain rfl : a = 0 := Subsingleton.elim _ _
  rfl

theorem pair_eq (a : Fin 2600000) (b : Fin 16) : Shape.pair (d := ![2600000, 16]) a b = ix2 a b := by
  funext i
  refine Fin.cases rfl (fun i => ?_) i
  obtain rfl : i = 0 := Subsingleton.elim _ _
  rfl

/-- The place of an example and a field among the row numbers. -/
def placeOf (n : Fin 16384) (f : Fin 26) : Fin 425984 := ⟨n.val * 26 + f.val, by omega⟩

variable (m : (ℓ : Loc nD τ sig) → Buf (Elt F) ℓ) (d : Dev nD)

/-- The row number of an example and a field. -/
theorem ixOf_apply (n : Fin 16384) (f : Fin 26) :
    (ixOf m d (flatIx (placeOf n f))).toNat
      = f.val * 100000 + (clipWord (m (d, Proc.devRef .tc main_arg0) (ix2 n f))).toNat := by
  have h : Shape.reshapeEquiv shapeCasts_S16384x26_S425984 (flatIx (placeOf n f)) = ix2 n f := by
    rw [flatIx_eq]
    pointwise [placeOf]
  rw [ixOf_eq]
  change (addi (clipped _) starts (Shape.reshapeEquiv shapeCasts_S16384x26_S425984 (flatIx (placeOf n f)))).toNat = _
  rw [rowWord_toNat, h]
  rfl

/-- The flat table's row of a field and a row of that field's table. -/
theorem tbOf_apply (f : Fin 26) (r : Fin 100000) (e : Fin 16) (h : f.val * 100000 + r.val < 2600000) :
    tbOf m d (ix2 ⟨f.val * 100000 + r.val, h⟩ e) = m (d, Proc.devRef .tc main_arg1) (ix3 f r e) := by
  rw [tbOf_eq]
  change m (d, Proc.devRef .tc main_arg1) (Shape.reshapeEquiv shapeCasts_S26x100000x16_S2600000x16 _) = _
  refine congrArg _ ?_
  pointwise

/-- A gathered row. -/
theorem gathered_apply (n : Fin 16384) (f : Fin 26) (e : Fin 16) :
    gathered (ixOf m d) (tbOf m d) (ix2 (placeOf n f) e)
      = m (d, Proc.devRef .tc main_arg1) (ix3 f (rowWord (m (d, Proc.devRef .tc main_arg0) (ix2 n f))) e) := by
  have hlt := clipWord_le (m (d, Proc.devRef .tc main_arg0) (ix2 n f))
  rw [← tbOf_apply m d f _ e (by unfold rowWord; simp only; omega)]
  have hrow : (⟨(ixOf m d (flatIx (placeOf n f))).toNat % 2600000, Nat.mod_lt _ (by decide)⟩ : Fin 2600000)
      = ⟨f.val * 100000 + (rowWord (m (d, Proc.devRef .tc main_arg0) (ix2 n f))).val, by unfold rowWord; simp only; omega⟩ := by
    refine Fin.ext ?_
    show (ixOf m d (flatIx (placeOf n f))).toNat % 2600000 = _
    rw [ixOf_apply]
    unfold rowWord
    simp only
    omega
  rw [← hrow, ← pair_eq]
  rfl

end Cert.RunIdeal
-- ==== Proof.Ideal.Sums.lean ====
/- The first pipeline's values over exact numbers: a block of the gathered matrix by its coordinates, what the two
   accumulators hold, and the two rows the pipeline leaves. -/
module

public import proofs.«01_k».proof.Proof.Ideal.Stats
public import Idealize.ShloMosaic.Lib.Pointwise
public import Idealize.ShloMosaic.Lib.Pipeline.ValueKit

@[expose] public section

set_option maxRecDepth 16384

noncomputable section

namespace Cert.RunIdeal

open Cert.KernelIdeal Cert.KernelIdeal.Gen

open Idealize.ShloMosaic Idealize.ShloMosaic.TcCoe
open Idealize.ShloMosaic.Pipeline (Dat)
open Idealize.SL.Sem

/-! ## The blocks -/

/-- The row block's place: point `t` takes row block `t`. -/
theorem place1_0 : ∀ t : Fin cfg1.N, win1_0.index t = ![t.val, 0] :=
  (by decide +kernel : ∀ t : Fin grid1.N, _)
/-- The accumulators' blocks are the whole rows. -/
theorem place1_1 : ∀ t : Fin cfg1.N, win1_1.index t = ![0, 0] :=
  (by decide +kernel : ∀ t : Fin grid1.N, _)
theorem place1_2 : ∀ t : Fin cfg1.N, win1_2.index t = ![0, 0] :=
  (by decide +kernel : ∀ t : Fin grid1.N, _)

/-- Row `r` of row block `t`. -/
def rowAt (t : Fin 8) (r : Fin 2048) : Fin 16384 := ⟨t.val * 2048 + r.val, by omega⟩

/-- The block of point `t` by its coordinates. -/
theorem xBlk_apply {F : FTy → Type} [FloatOps F] (W : Vals F) (c : Dev nD) (t : Fin cfg1.N) (r : Fin 2048) (k : Fin 416) :
    xBlk W c t (ix2 r k) = W c main_v10 (ix2 (rowAt ⟨t.val, Nat.lt_of_lt_of_eq t.isLt N_1⟩ r) k) := by
  unfold rowAt
  blk_ext! [xBlk, place1_0 t]

/-! ## The sums -/

/-- One block's column sums. -/
theorem pay2_apply (x : Vec Ideal S2048x416 .f32) (k : Fin 416) :
    k1_pay2 x (ix2 0 k) = ∑ r : Fin 2048, x (ix2 r k) := by
  pointwise [k1_pay2, k1_pay1]

/-- One block's column sums of squares. -/
theorem pay3_apply (x : Vec Ideal S2048x416 .f32) (k : Fin 416) :
    k1_pay3 x (ix2 0 k) = ∑ r : Fin 2048, x (ix2 r k) * x (ix2 r k) := by
  pointwise [k1_pay3, k1_pay1]

theorem pay4_apply (x : Vec Ideal S2048x416 .f32) (y : Vec Ideal S1x416 .f32) (k : Fin 416) :
    k1_pay4 x y (ix2 0 k) = y (ix2 0 k) + ∑ r : Fin 2048, x (ix2 r k) := by
  pointwise [k1_pay4, k1_pay2, k1_pay1]

theorem pay5_apply (x : Vec Ideal S2048x416 .f32) (y : Vec Ideal S1x416 .f32) (k : Fin 416) :
    k1_pay5 x y (ix2 0 k) = y (ix2 0 k) + ∑ r : Fin 2048, x (ix2 r k) * x (ix2 r k) := by
  pointwise [k1_pay5, k1_pay3, k1_pay1]

/-- The sum over the row blocks of each block's sum is the sum over all rows. -/
theorem sum_rows (f : Fin 16384 → EReal) : ∑ t : Fin 8, ∑ r : Fin 2048, f (rowAt t r) = ∑ n : Fin 16384, f n := by
  rw [← Finset.sum_product', Finset.univ_product_univ]
  refine Fintype.sum_equiv (finProdFinEquiv (m := 8) (n := 2048)) _ _ fun p => congrArg f (Fin.ext ?_)
  show p.1.val * 2048 + p.2.val = p.2.val + 2048 * p.1.val
  omega

section
variable (W : Vals Ideal) (c : Dev nD)

/-- The gathered matrix by its coordinates. -/
def mat (n : Fin 16384) (k : Fin 416) : EReal := W c main_v10 (ix2 n k)

/-- Block `t`'s sum of a column of the matrix. -/
theorem blk_sum (t : Fin cfg1.N) (k : Fin 416) :
    ∑ r : Fin 2048, (xBlk W c t (ix2 r k) : EReal)
      = ∑ r : Fin 2048, mat W c (rowAt ⟨t.val, Nat.lt_of_lt_of_eq t.isLt N_1⟩ r) k :=
  Finset.sum_congr rfl fun r _ => xBlk_apply W c t r k

/-- Block `t`'s sum of a column's squares. -/
theorem blk_sumsq (t : Fin cfg1.N) (k : Fin 416) :
    ∑ r : Fin 2048, (xBlk W c t (ix2 r k) * xBlk W c t (ix2 r k) : EReal)
      = ∑ r : Fin 2048, mat W c (rowAt ⟨t.val, Nat.lt_of_lt_of_eq t.isLt N_1⟩ r) k
          * mat W c (rowAt ⟨t.val, Nat.lt_of_lt_of_eq t.isLt N_1⟩ r) k :=
  Finset.sum_congr rfl fun r _ => congrArg (fun v : EReal => v * v) (xBlk_apply W c t r k)

theorem lt_eight {n : ℕ} (h : n < cfg1.N) (t : Fin (n + 1)) : t.val < 8 := by
  have := t.isLt
  have : n < 8 := Nat.lt_of_lt_of_eq h N_1
  omega

/-- The first accumulator after point `n`: the sum of the first `n + 1` blocks' sums. -/
theorem acc_sum (k : Fin 416) : (n : ℕ) → (h : n < cfg1.N) → ((acc W c n h).1 (ix2 0 k) : EReal)
    = ∑ t : Fin (n + 1), ∑ r : Fin 2048,
        mat W c (rowAt ⟨t.val, lt_eight h t⟩ r) k
  | 0, h => (pay2_apply _ k).trans ((blk_sum W c ⟨0, h⟩ k).trans (by rw [Fin.sum_univ_one]; rfl))
  | n + 1, h => by
    rw [Fin.sum_univ_castSucc]
    refine (pay4_apply _ _ k).trans ?_
    rw [acc_sum k n (Nat.lt_of_succ_lt h), blk_sum W c ⟨n + 1, h⟩ k]
    rfl

/-- The second accumulator after point `n`. -/
theorem acc_sumsq (k : Fin 416) : (n : ℕ) → (h : n < cfg1.N) → ((acc W c n h).2 (ix2 0 k) : EReal)
    = ∑ t : Fin (n + 1), ∑ r : Fin 2048,
        mat W c (rowAt ⟨t.val, lt_eight h t⟩ r) k * mat W c (rowAt ⟨t.val, lt_eight h t⟩ r) k
  | 0, h => (pay3_apply _ k).trans ((blk_sumsq W c ⟨0, h⟩ k).trans (by rw [Fin.sum_univ_one]; rfl))
  | n + 1, h => by
    rw [Fin.sum_univ_castSucc]
    refine (pay5_apply _ _ k).trans ?_
    rw [acc_sumsq k n (Nat.lt_of_succ_lt h), blk_sumsq W c ⟨n + 1, h⟩ k]
    rfl

/-- The last point. -/
def last1 : Fin cfg1.N := ⟨7, Nat.lt_of_lt_of_eq (by decide : 7 < 8) N_1.symm⟩

/-- The column sums the first pipeline leaves. -/
theorem arr_sum : (sDat W c).arrAt 1 cfg1.N = fun i => ∑ n : Fin 16384, mat W c n (i 1) := by
  refine (sDat W c).arrAt_eq_of_after_last 1 last1 (by decide +kernel) _ fun j => ?_
  obtain ⟨a, k, rfl⟩ : ∃ (a : Fin 1) (k : Fin 416), j = ix2 a k := ⟨j 0, j 1, eq_ix2 j⟩
  obtain rfl : a = 0 := Subsingleton.elim _ _
  rw [sAfter1]
  exact (acc_sum W c k 7 last1.isLt).trans (sum_rows fun n => mat W c n k)

/-- The column sums of squares the first pipeline leaves. -/
theorem arr_sumsq : (sDat W c).arrAt 2 cfg1.N
    = fun i => ∑ n : Fin 16384, mat W c n (i 1) * mat W c n (i 1) := by
  refine (sDat W c).arrAt_eq_of_after_last 2 last1 (by decide +kernel) _ fun j => ?_
  obtain ⟨a, k, rfl⟩ : ∃ (a : Fin 1) (k : Fin 416), j = ix2 a k := ⟨j 0, j 1, eq_ix2 j⟩
  obtain rfl : a = 0 := Subsingleton.elim _ _
  rw [sAfter2]
  exact (acc_sumsq W c k 7 last1.isLt).trans
    (sum_rows fun n => mat W c n k * mat W c n k)

end

end Cert.RunIdeal
-- ==== Proof.Ideal.Layers.lean ====
/- The layers' mathematics over exact numbers: three dense layers and the logistic function of a row, and the row's
   normalization as the kernel computes it. -/
module

public import Idealize.ShloMosaic.PureOps.Ideal

@[expose] public section

noncomputable section

namespace Cert.RunIdeal

open Idealize.ShloMosaic

/-- Two layers cut off below at zero, a last layer with one output, and the logistic function of it. -/
def layers (x : Fin 416 → EReal) (w₁ : Fin 512 → Fin 416 → EReal) (b₁ : Fin 512 → EReal) (w₂ : Fin 256 → Fin 512 → EReal)
    (b₂ : Fin 256 → EReal) (w₃ : Fin 256 → EReal) (b₃ : EReal) : EReal :=
  Ideal.div 1 (1 + Ideal.exp (-((∑ k, max ((∑ j, max ((∑ a, x a * w₁ j a) + b₁ j) 0 * w₂ k j) + b₂ k) 0 * w₃ k) + b₃)))

/-- The kernel's multiplier for the mean: the reciprocal of the number of rows. -/
def invRows : EReal := Ideal.ofBits .f32 0x38800000#32
/-- What both programs add to a variance. -/
def eps : EReal := Ideal.ofBits .f32 0x3727C5AC#32

/-- The kernel's scale of a column, from the column's sum `s` and sum of squares `q`. -/
def scale (s q g : EReal) : EReal := g * Ideal.rsqrt (q * invRows - s * invRows * (s * invRows) + eps)

/-- The kernel's normalized element. -/
def normed (s q g b x : EReal) : EReal := x * scale s q g + (b - s * invRows * scale s q g)

theorem layers_congr {x x' : Fin 416 → EReal} {w₁ w₁' : Fin 512 → Fin 416 → EReal} {b₁ b₁' : Fin 512 → EReal}
    {w₂ w₂' : Fin 256 → Fin 512 → EReal} {b₂ b₂' : Fin 256 → EReal} {w₃ w₃' : Fin 256 → EReal} {b₃ b₃' : EReal}
    (hx : ∀ a, x a = x' a) (hw₁ : ∀ j a, w₁ j a = w₁' j a) (hb₁ : ∀ j, b₁ j = b₁' j) (hw₂ : ∀ k j, w₂ k j = w₂' k j)
    (hb₂ : ∀ k, b₂ k = b₂' k) (hw₃ : ∀ k, w₃ k = w₃' k) (hb₃ : b₃ = b₃') :
    layers x w₁ b₁ w₂ b₂ w₃ b₃ = layers x' w₁' b₁' w₂' b₂' w₃' b₃' := by
  rw [funext hx, funext₂ hw₁, funext hb₁, funext₂ hw₂, funext hb₂, funext hw₃, hb₃]

theorem normed_congr {s s' q q' g g' b b' x x' : EReal} (hs : s = s') (hq : q = q') (hg : g = g') (hb : b = b')
    (hx : x = x') : normed s q g b x = normed s' q' g' b' x' := by
  rw [hs, hq, hg, hb, hx]

end Cert.RunIdeal
-- ==== Proof.Ideal.Rows.lean ====
/- The second pipeline's values over exact numbers: the block a point stores, row by row. -/
module

public import proofs.«01_k».proof.Proof.Ideal.Mlp
public import proofs.«01_k».proof.Proof.Ideal.Layers
public import Idealize.ShloMosaic.Lib.Pointwise
public import Idealize.ShloMosaic.Lib.Pipeline.ValueKit

@[expose] public section

set_option maxRecDepth 16384

noncomputable section

namespace Cert.RunIdeal

open Cert.KernelIdeal Cert.KernelIdeal.Gen

open Idealize.ShloMosaic Idealize.ShloMosaic.TcCoe
open Idealize.ShloMosaic.Pipeline (Dat)
open Idealize.SL.Sem

/-- A block's row after the first layer. -/
theorem hidden_apply (s q g b : Vec Ideal S1x416 .f32) (x : Vec Ideal S2048x416 .f32) (w₁ : Vec Ideal S416x512 .f32)
    (b₁ : Vec Ideal S1x512 .f32) (r : Fin 2048) (j : Fin 512) :
    k2_pay2 s q g b x w₁ b₁ (ix2 r j)
      = max ((∑ a : Fin 416, normed (s (ix2 0 a)) (q (ix2 0 a)) (g (ix2 0 a)) (b (ix2 0 a)) (x (ix2 r a)) * w₁ (ix2 a j))
          + b₁ (ix2 0 j)) 0 := by
  pointwise [k2_pay2, normed, scale, invRows, eps]

/-- A block's row after the last layer. -/
theorem last_apply (h : Vec Ideal S2048x512 .f32) (w₂ : Vec Ideal S512x256 .f32) (b₂ w₃ : Vec Ideal S1x256 .f32)
    (b₃ : Vec Ideal S1x1 .f32) (r : Fin 2048) :
    k2_pay1 h (k2_pay3 w₂) (constant S2048x256 .f32 0x00000000#32) b₂ w₃ b₃ (ix2 r 0)
      = Ideal.div 1 (1 + Ideal.exp (-((∑ k : Fin 256, max ((∑ j : Fin 512, h (ix2 r j) * w₂ (ix2 j k)) + b₂ (ix2 0 k)) 0
          * w₃ (ix2 0 k)) + b₃ (ix2 0 0)))) := by
  pointwise [k2_pay1, k2_pay3]
  rw [zero_sub]

/-! ## The blocks -/

/-- The row blocks' places: point `t` takes, and stores, row block `t`. -/
theorem place2_rows : ∀ t : Fin cfg2.N, win2_0.index t = ![t.val, 0] ∧ win2_11.index t = ![t.val, 0] :=
  (by decide +kernel : ∀ t : Fin grid2.N, _)
/-- Every other block is its whole array. -/
theorem place2_whole : ∀ t : Fin cfg2.N, win2_1.index t = ![0, 0] ∧ win2_2.index t = ![0, 0] ∧ win2_3.index t = ![0, 0]
    ∧ win2_4.index t = ![0, 0] ∧ win2_5.index t = ![0, 0] ∧ win2_6.index t = ![0, 0] ∧ win2_7.index t = ![0, 0]
    ∧ win2_8.index t = ![0, 0] ∧ win2_9.index t = ![0, 0] ∧ win2_10.index t = ![0, 0] :=
  (by decide +kernel : ∀ t : Fin grid2.N, _)

section
variable (W : Vals Ideal) (c : Dev nD) (t : Fin cfg2.N)

/-- Row `r` of the block of point `t`. -/
def rowOf (r : Fin 2048) : Fin 16384 :=
  ⟨t.val * 2048 + r.val, by have : t.val < 8 := Nat.lt_of_lt_of_eq t.isLt N_2; omega⟩

theorem blk0 (r : Fin 2048) (a : Fin 416) : mBlk W c 0 t (ix2 r a) = W c main_v10 (ix2 (rowOf t r) a) := by
  unfold rowOf
  blk_ext! [mBlk, (place2_rows t).1]
theorem blk1 : mBlk W c 1 t = W c main_v11_0 := by blk_ext! [mBlk, place2_whole t]
theorem blk2 : mBlk W c 2 t = W c main_v11_1 := by blk_ext! [mBlk, place2_whole t]
theorem blk3 : mBlk W c 3 t = W c main_v12 := by blk_ext! [mBlk, place2_whole t]
theorem blk4 : mBlk W c 4 t = W c main_v13 := by blk_ext! [mBlk, place2_whole t]
theorem blk5 : mBlk W c 5 t = W c main_v14 := by blk_ext! [mBlk, place2_whole t]
theorem blk6 : mBlk W c 6 t = W c main_v15 := by blk_ext! [mBlk, place2_whole t]
theorem blk7 : mBlk W c 7 t = W c main_v16 := by blk_ext! [mBlk, place2_whole t]
theorem blk8 : mBlk W c 8 t = W c main_v17 := by blk_ext! [mBlk, place2_whole t]
theorem blk9 : mBlk W c 9 t = W c main_arg8 := by blk_ext! [mBlk, place2_whole t]
theorem blk10 : mBlk W c 10 t = W c main_v18 := by blk_ext! [mBlk, place2_whole t]

end

section
variable (W : Vals Ideal) (c : Dev nD)

/-- The kernel's output of row `n`, from the arrays the second pipeline reads. -/
def rowOut (n : Fin 16384) : EReal :=
  layers
    (fun a => normed (W c main_v11_0 (ix2 0 a)) (W c main_v11_1 (ix2 0 a)) (W c main_v12 (ix2 0 a)) (W c main_v13 (ix2 0 a))
      (W c main_v10 (ix2 n a)))
    (fun j a => W c main_v14 (ix2 a j)) (fun j => W c main_v15 (ix2 0 j)) (fun k j => W c main_v16 (ix2 j k))
    (fun k => W c main_v17 (ix2 0 k)) (fun k => W c main_arg8 (ix2 0 k)) (W c main_v18 (ix2 0 0))

/-- A row of the block a point stores. -/
theorem mOut_apply (t : Fin cfg2.N) (r : Fin 2048) : mOut W c t (ix2 r 0) = rowOut W c (rowOf t r) := by
  unfold mOut mlpOut
  rw [last_apply]
  simp only [hidden_apply, blk0, blk1, blk2, blk3, blk4, blk5, blk6, blk7, blk8, blk9, blk10]
  rfl

/-- The column the second pipeline leaves. -/
theorem arr_out : (mDat W c).arrAt 11 cfg2.N = fun i => rowOut W c (i 0) := by
  refine (mDat W c).arrAt_eq_of_covers 11 _ (by decide +kernel) fun t _ y => ?_
  obtain ⟨r, a, rfl⟩ : ∃ (r : Fin 2048) (a : Fin 1), y = ix2 r a := ⟨y 0, y 1, eq_ix2 y⟩
  obtain rfl : a = 0 := Subsingleton.elim _ _
  blk_simp
  rw [mAfter11]
  refine (mOut_apply W c t r).trans (congrArg (rowOut W c) ?_)
  unfold rowOf
  apply Fin.ext
  blk_simp [(place2_rows t).2]

end

end Cert.RunIdeal
-- ==== Proof.Ideal.KernelValue.lean ====
/- The kernel's result in its arguments: what the program's valuations hold in each buffer that the second pipeline reads,
   and the result at an example. -/
module

public import proofs.«01_k».proof.Proof.Ideal.Table
public import proofs.«01_k».proof.Proof.Ideal.Sums
public import proofs.«01_k».proof.Proof.Ideal.Rows
public import proofs.«01_k».proof.Proof.Ideal.Regions
public import proofs.«01_k».proof.Proof.Ideal.Launch

@[expose] public section

set_option maxRecDepth 16384

noncomputable section

namespace Cert.RunIdeal

open Cert.KernelIdeal Cert.KernelIdeal.Gen

open Idealize.ShloMosaic Idealize.ShloMosaic.TcCoe
open Idealize.ShloMosaic.Pipeline (Dat)
open Idealize.SL.Sem

variable (m : (ℓ : Loc nD τ sig) → Buf (Elt Ideal) ℓ) (d : Dev nD)

/-- An argument at the launch. -/
abbrev arg (r : Ref sig .tc) : Buf (Elt Ideal) ((d, Proc.devRef .tc r) : Loc nD τ sig) := m (d, Proc.devRef .tc r)

/-- The matrix that the kernel gathers. -/
def xs (n : Fin 16384) (k : Fin 416) : EReal :=
  elem (arg m d main_arg0) (arg m d main_arg1) n k

/-- The gathered matrix before the pipelines. -/
theorem V3_mat (n : Fin 16384) (k : Fin 416) : V3 m d (Proc.devRef .tc main_v10) (ix2 n k) = xs m d n k := by
  have h : V3 m d (Proc.devRef .tc main_v10)
      = shapeCast S16384x416 (gathered (ixOf m d) (tbOf m d)) shapeCasts_S425984x16_S16384x416 := by
    rw [← V2_out]
    unfold V3
    simp only [ops2, StableHlo.TRef.unary, StableHlo.TRef.toBuf, StableHlo.TRef.ofBuf, cast_eq]
    after_results_simp
    rfl
  rw [h]
  change gathered (ixOf m d) (tbOf m d) (Shape.reshapeEquiv shapeCasts_S425984x16_S16384x416 (ix2 n k)) = _
  have hj : Shape.reshapeEquiv shapeCasts_S425984x16_S16384x416 (ix2 n k) = ix2 (placeOf n (fieldOf k)) (entryOf k) := by
    pointwise [placeOf, fieldOf, entryOf]
  rw [hj, gathered_apply]
  rfl

/-- One element of an array of two axes, as an extended real. -/
abbrev read2 {s₀ s₁ : ℕ} (v : (⟨2, ![s₀, s₁]⟩ : Shape).Idx → EReal) (i : Fin s₀) (j : Fin s₁) : EReal := v (ix2 i j)

theorem V3_mat_eq : mat (vals (V3 m)) d = xs m d := funext₂ fun n k => V3_mat m d n k

/-- The first pipeline writes the column sums. -/
theorem V4_sum_apply (k : Fin 416) :
    read2 (s₀ := 1) (V4 m d (Proc.devRef .tc main_v11_0)) 0 k = ∑ n, xs m d n k := by
  have h := congrFun (arr_sum (vals (V3 m)) d) (ix2 0 k)
  rw [V3_mat_eq] at h
  rw [V4_sum]
  exact h

/-- The first pipeline writes the column sums of squares. -/
theorem V4_sq_apply (k : Fin 416) :
    read2 (s₀ := 1) (V4 m d (Proc.devRef .tc main_v11_1)) 0 k = ∑ n, xs m d n k * xs m d n k := by
  have h := congrFun (arr_sumsq (vals (V3 m)) d) (ix2 0 k)
  rw [V3_mat_eq] at h
  rw [V4_sq]
  exact h

/-- An argument that the program does not write, after the first pipeline. -/
theorem V4_arg (r : Ref sig .tc) (hr : r ∉ written) : V4 m d (Proc.devRef .tc r) = arg m d r := by
  refine Eq.trans ?_ (V5_of_unwritten m d r hr)
  simp only [written, List.mem_append, List.mem_cons, List.not_mem_nil, or_false, not_or] at hr
  rw [V5, ops3_keeps _ (by simpa using hr.1.2)]

theorem V5_mat (n : Fin 16384) (k : Fin 416) : V5 m d (Proc.devRef .tc main_v10) (ix2 n k) = xs m d n k := by
  rw [V5, ops3_keeps _ (by decide), V4_of_ne m d _ (by decide) (by decide), V3_mat]
theorem V5_sum (k : Fin 416) : V5 m d (Proc.devRef .tc main_v11_0) (ix2 0 k) = (∑ n, xs m d n k : EReal) := by
  rw [V5, ops3_keeps _ (by decide)]
  exact V4_sum_apply m d k
theorem V5_sq (k : Fin 416) : V5 m d (Proc.devRef .tc main_v11_1) (ix2 0 k) = (∑ n, xs m d n k * xs m d n k : EReal) := by
  rw [V5, ops3_keeps _ (by decide)]
  exact V4_sq_apply m d k

/-- The reshapes and transposes before the second pipeline, over whole arrays. -/
theorem ops3_reads (V : Valuation τ sig (Elt Ideal)) :
    StableHlo.after ops3 V (Proc.devRef .tc main_v12) = shapeCast S1x416 (V (Proc.devRef .tc main_arg2)) shapeCasts_S416_S1x416
    ∧ StableHlo.after ops3 V (Proc.devRef .tc main_v13) = shapeCast S1x416 (V (Proc.devRef .tc main_arg3)) shapeCasts_S416_S1x416
    ∧ StableHlo.after ops3 V (Proc.devRef .tc main_v14)
        = transpose S416x512 [1, 0] (V (Proc.devRef .tc main_arg4)) transposes_S512x416_S416x512_1_0
    ∧ StableHlo.after ops3 V (Proc.devRef .tc main_v15) = shapeCast S1x512 (V (Proc.devRef .tc main_arg5)) shapeCasts_S512_S1x512
    ∧ StableHlo.after ops3 V (Proc.devRef .tc main_v16)
        = transpose S512x256 [1, 0] (V (Proc.devRef .tc main_arg6)) transposes_S256x512_S512x256_1_0
    ∧ StableHlo.after ops3 V (Proc.devRef .tc main_v17) = shapeCast S1x256 (V (Proc.devRef .tc main_arg7)) shapeCasts_S256_S1x256
    ∧ StableHlo.after ops3 V (Proc.devRef .tc main_v18) = shapeCast S1x1 (V (Proc.devRef .tc main_arg9)) shapeCasts_S1_S1x1 := by
  simp only [ops3, StableHlo.TRef.unary, StableHlo.TRef.toBuf, StableHlo.TRef.ofBuf, cast_eq]
  refine ⟨?_, ?_, ?_, ?_, ?_, ?_, ?_⟩ <;> after_results_simp <;> rfl

/-- The second pipeline's operands that the arguments give, element by element. -/
theorem V5_gamma (k : Fin 416) : V5 m d (Proc.devRef .tc main_v12) (ix2 0 k) = arg m d main_arg2 (ix1 k) := by
  rw [V5, (ops3_reads _).1, V4_arg m d _ (by decide)]
  pointwise
theorem V5_beta (k : Fin 416) : V5 m d (Proc.devRef .tc main_v13) (ix2 0 k) = arg m d main_arg3 (ix1 k) := by
  rw [V5, (ops3_reads _).2.1, V4_arg m d _ (by decide)]
  pointwise
theorem V5_w1 (a : Fin 416) (j : Fin 512) : V5 m d (Proc.devRef .tc main_v14) (ix2 a j) = arg m d main_arg4 (ix2 j a) := by
  rw [V5, (ops3_reads _).2.2.1, V4_arg m d _ (by decide)]
  pointwise
theorem V5_b1 (j : Fin 512) : V5 m d (Proc.devRef .tc main_v15) (ix2 0 j) = arg m d main_arg5 (ix1 j) := by
  rw [V5, (ops3_reads _).2.2.2.1, V4_arg m d _ (by decide)]
  pointwise
theorem V5_w2 (j : Fin 512) (k : Fin 256) : V5 m d (Proc.devRef .tc main_v16) (ix2 j k) = arg m d main_arg6 (ix2 k j) := by
  rw [V5, (ops3_reads _).2.2.2.2.1, V4_arg m d _ (by decide)]
  pointwise
theorem V5_b2 (k : Fin 256) : V5 m d (Proc.devRef .tc main_v17) (ix2 0 k) = arg m d main_arg7 (ix1 k) := by
  rw [V5, (ops3_reads _).2.2.2.2.2.1, V4_arg m d _ (by decide)]
  pointwise
theorem V5_b3 : V5 m d (Proc.devRef .tc main_v18) (ix2 0 0) = arg m d main_arg9 (ix1 0) := by
  rw [V5, (ops3_reads _).2.2.2.2.2.2, V4_arg m d _ (by decide)]
  pointwise
theorem V5_w3 : V5 m d (Proc.devRef .tc main_arg8) = arg m d main_arg8 := V5_of_unwritten m d _ (by decide)

/-- The kernel's result at an example: the layers over the row normalized by the two sums. -/
theorem kernel_out (n : Fin 16384) :
    V7 m d (Proc.devRef .tc main_v20) (ix1 n)
      = layers (fun a => normed (∑ n', xs m d n' a) (∑ n', xs m d n' a * xs m d n' a) (arg m d main_arg2 (ix1 a))
            (arg m d main_arg3 (ix1 a)) (xs m d n a))
          (fun j a => arg m d main_arg4 (ix2 j a)) (fun j => arg m d main_arg5 (ix1 j))
          (fun k j => arg m d main_arg6 (ix2 k j)) (fun k => arg m d main_arg7 (ix1 k))
          (fun k => arg m d main_arg8 (ix2 0 k)) (arg m d main_arg9 (ix1 0)) := by
  have h : V7 m d (Proc.devRef .tc main_v20)
      = shapeCast S16384 (V6 m d (Proc.devRef .tc main_v19)) shapeCasts_S16384x1_S16384 := by
    unfold V7
    simp only [ops4, StableHlo.TRef.unary, StableHlo.TRef.toBuf, StableHlo.TRef.ofBuf, cast_eq]
    after_results_simp
    rfl
  rw [h, V6_out]
  change (dat2 m d).arrAt 11 cfg2.N (Shape.reshapeEquiv shapeCasts_S16384x1_S16384 (ix1 n)) = _
  have hj : Shape.reshapeEquiv shapeCasts_S16384x1_S16384 (ix1 n) = (ix2 n 0 : S16384x1.Idx) := by
    pointwise
  rw [hj]
  refine (congrFun (arr_out (vals (V5 m)) d) (ix2 n 0)).trans ?_
  exact layers_congr (fun a => normed_congr (V5_sum m d a) (V5_sq m d a) (V5_gamma m d a) (V5_beta m d a) (V5_mat m d n a))
    (fun j a => V5_w1 m d a j) (fun j => V5_b1 m d j) (fun k j => V5_w2 m d j k) (fun k => V5_b2 m d k)
    (fun k => congrFun (V5_w3 m d) (ix2 0 k)) (V5_b3 m d)

end Cert.RunIdeal
-- ==== Proof.Ideal.RefTable.lean ====
/- The reference's gathered matrix: its start indices are a field and a clipped index, and its element (n, k) is the
   element that the kernel gathers. -/
module

public import proofs.«01_k».proof.Proof.Ideal.Table
public import proofs.«01_k».proof.Proof.Gen.ReferenceIdeal
public import Idealize.ShloMosaic.Lib.Pointwise

@[expose] public section

noncomputable section

namespace Cert.RefIdeal

open Cert.ReferenceIdeal Cert.ReferenceIdeal.Gen
open Idealize.ShloMosaic Idealize.ShloMosaic.TcCoe
open Cert.RunIdeal (elem fieldOf entryOf rowWord clipWord clipWord_le)

/-- A word below zero counts from an extent's end. -/
def wrap (x : BitVec 32) (n : BitVec 32) : BitVec 32 := Scalar.select (IntOp.cmpi .slt x 0#32) (IntOp.addi x n) x

theorem wrap_of_lt (x n : BitVec 32) (h : x.toNat < 2 ^ 31) : wrap x n = x := by
  have h0 : IntOp.cmpi .slt x 0#32 = 0#1 := by
    simp [IntOp.cmpi, BitVec.slt, BitVec.toInt_eq_toNat_of_lt (show 2 * x.toNat < 2 ^ 32 by omega)]
    rw [decide_eq_false (by omega)]
    rfl
  rw [wrap, h0]
  rfl

/-- The field numbers. -/
def fields : S1x26.Idx → BitVec 32 := broadcastInDim S1x26 ![1] bcast_S26_S1x26_1 (iotaInDim S26 32 0)

/-- The indices clipped into a table's rows. -/
def clips (x : S16384x26.Idx → BitVec 32) : S16384x26.Idx → BitVec 32 :=
  minsi (broadcastInDim S16384x26 ![] bcast_S_S16384x26 (id (constantI S_ 32 99999#32)))
    (maxsi (broadcastInDim S16384x26 ![] bcast_S_S16384x26 (id (constantI S_ 32 0#32))) x)

/-- The gather's start indices: each example's and field's field number and clipped index. -/
def startWords (x : S16384x26.Idx → BitVec 32) : S16384x26x2.Idx → BitVec 32 :=
  concatenate S16384x26x2 2
    [⟨S16384x26x1, broadcastInDim S16384x26x1 ![0, 1] bcast_S16384x26_S16384x26x1_0_1
        (broadcastInDim S16384x26 ![0, 1] bcast_S1x26_S16384x26_0_1
          (select (cmpi .slt fields (broadcastInDim S1x26 ![] bcast_S_S1x26 (constantI S_ 32 0#32)))
            (addi fields (broadcastInDim S1x26 ![] bcast_S_S1x26 (constantI S_ 32 26#32))) fields))⟩,
     ⟨S16384x26x1, broadcastInDim S16384x26x1 ![0, 1] bcast_S16384x26_S16384x26x1_0_1
        (select (cmpi .slt (clips x) (broadcastInDim S16384x26 ![] bcast_S_S16384x26 (constantI S_ 32 0#32)))
          (addi (clips x) (broadcastInDim S16384x26 ![] bcast_S_S16384x26 (constantI S_ 32 100000#32))) (clips x))⟩]
    concatenates_S16384x26x1_S16384x26x1_S16384x26x2_d2

/-- The gathered matrix. -/
def table {α : Type} (x : S16384x26.Idx → BitVec 32) (tab : S26x100000x16.Idx → α) : S16384x416.Idx → α :=
  shapeCast S16384x416 (Host.gather gather_S26x100000x16_S16384x26x2_S16384x26x16_2_01_n_n_01_2_1116 tab (startWords x))
    shapeCasts_S16384x26x16_S16384x416

theorem startWords_field (x : S16384x26.Idx → BitVec 32) (n : Fin 16384) (f : Fin 26) :
    startWords x (ix3 n f 0) = BitVec.ofNat 32 f.val := by
  unfold startWords fields
  pointwise
  exact wrap_of_lt _ _ (by revert f; decide)

theorem startWords_row (x : S16384x26.Idx → BitVec 32) (n : Fin 16384) (f : Fin 26) :
    startWords x (ix3 n f 1) = clipWord (x (ix2 n f)) := by
  unfold startWords clips
  pointwise
  exact wrap_of_lt (clipWord (x (ix2 n f))) _ (by have := clipWord_le (x (ix2 n f)); omega)

/-- The gather's operand index. -/
theorem operandIdx_apply (idx : S16384x26x2.Idx → BitVec 32) (n : Fin 16384) (f : Fin 26) (e : Fin 16) (a : Fin 26) (b : Fin 100000)
    (ha : (idx (ix3 n f 0)).toInt.toNat = a.val) (hb : (idx (ix3 n f 1)).toInt.toNat = b.val) :
    gather_S26x100000x16_S16384x26x2_S16384x26x16_2_01_n_n_01_2_1116.operandIdx (ix3 n f e) idx = ix3 a b e := by
  have hs (i : Fin 2) : gather_S26x100000x16_S16384x26x2_S16384x26x16_2_01_n_n_01_2_1116.siIdx (ix3 n f e) i = ix3 n f i := by
    funext b'
    refine Fin.ext ?_
    match b' with
    | ⟨0, _⟩ => rfl
    | ⟨1, _⟩ => rfl
    | ⟨2, _⟩ => rfl
  funext c
  refine Fin.ext ?_
  unfold GatherDims.operandIdx
  match c with
  | ⟨0, _⟩ =>
    show min (idx (gather_S26x100000x16_S16384x26x2_S16384x26x16_2_01_n_n_01_2_1116.siIdx (ix3 n f e) (0 : Fin 2))).toInt.toNat 25
      + 0 + 0 = a.val
    rw [hs, ha]
    omega
  | ⟨1, _⟩ =>
    show min (idx (gather_S26x100000x16_S16384x26x2_S16384x26x16_2_01_n_n_01_2_1116.siIdx (ix3 n f e) (1 : Fin 2))).toInt.toNat 99999
      + 0 + 0 = b.val
    rw [hs, hb]
    omega
  | ⟨2, _⟩ =>
    show 0 + 0 + e.val = e.val
    omega

theorem table_apply {α : Type} (x : S16384x26.Idx → BitVec 32) (tab : S26x100000x16.Idx → α) (n : Fin 16384) (k : Fin 416) :
    table x tab (ix2 n k) = elem x tab n k := by
  unfold table
  change Host.gather _ tab (startWords x) (Shape.reshapeEquiv shapeCasts_S16384x26x16_S16384x416 (ix2 n k)) = _
  have hj : Shape.reshapeEquiv shapeCasts_S16384x26x16_S16384x416 (ix2 n k) = ix3 n (fieldOf k) (entryOf k) := by
    pointwise [fieldOf, entryOf]
  rw [hj]
  unfold Host.gather elem
  refine congrArg tab ?_
  refine operandIdx_apply (startWords x) n _ _ _ _ ?_ ?_
  · rw [startWords_field]
    generalize fieldOf k = f
    revert f
    decide
  · rw [startWords_row]
    have h := clipWord_le (x (ix2 n (fieldOf k)))
    rw [BitVec.toInt_eq_toNat_of_lt (by omega)]
    rfl

end Cert.RefIdeal
-- ==== Proof.Ideal.Normal.lean ====
/- The two normalizations of a column of real numbers agree: the kernel's, from the column's sum and sum of squares, and the
   reference's, from its mean and the mean of the squared deviations. -/
module

public import proofs.«01_k».proof.Proof.Ideal.Layers
public import Idealize.ShloMosaic.Lib.IdealHost

@[expose] public section

noncomputable section

namespace Cert.RunIdeal

open Idealize.ShloMosaic

/-- The number of rows. -/
def rows : EReal := Ideal.ofBits .f32 0x46800000#32

theorem rows_eq : rows = ((16384 : ℝ) : EReal) := by
  unfold rows
  simp [Ideal.ofBits, Ideal.ieee, -EReal.coe_mul]; norm_num

theorem invRows_eq : invRows = ((1 / 16384 : ℝ) : EReal) := by
  unfold invRows
  simp [Ideal.ofBits, Ideal.ieee, -EReal.coe_mul]; norm_num

theorem eps_pos : ∃ e : ℝ, 0 < e ∧ eps = (e : EReal) := by
  unfold eps
  refine ⟨_, ?_, by simp [Ideal.ofBits, Ideal.ieee, -EReal.coe_mul]; rfl⟩
  positivity

/-- The mean of the squared deviations is the mean of the squares less the square of the mean. -/
theorem variance_real (r : Fin 16384 → ℝ) :
    (∑ n, (r n - (∑ i, r i) / 16384) * (r n - (∑ i, r i) / 16384)) / 16384
      = (∑ n, r n * r n) * (1 / 16384) - (∑ i, r i) * (1 / 16384) * ((∑ i, r i) * (1 / 16384)) := by
  generalize hS : ∑ i, r i = S
  have h (n : Fin 16384) : (r n - S / 16384) * (r n - S / 16384) = r n * r n - 2 * (S / 16384) * r n + (S / 16384) ^ 2 := by
    ring
  simp only [h, Finset.sum_add_distrib, Finset.sum_sub_distrib, ← Finset.mul_sum, hS, Finset.sum_const, Finset.card_univ,
    Fintype.card_fin, nsmul_eq_mul]
  push_cast
  ring

theorem coe_sum (r : Fin 16384 → ℝ) : (∑ n, (r n : EReal)) = ((∑ n, r n : ℝ) : EReal) := by
  suffices h : ∀ s : Finset (Fin 16384), (∑ n ∈ s, (r n : EReal)) = ((∑ n ∈ s, r n : ℝ) : EReal) from h Finset.univ
  intro s
  induction s using Finset.induction_on with
  | empty => simp
  | insert a s ha ih => rw [Finset.sum_insert ha, Finset.sum_insert ha, ih, EReal.coe_add]

/-- The reference's normalized element. -/
def standard (x : Fin 16384 → EReal) (g b : EReal) (n : Fin 16384) : EReal :=
  Ideal.div (x n - Ideal.div (∑ i, x i) rows)
    (Ideal.sqrt (Ideal.div (∑ i, (x i - Ideal.div (∑ i, x i) rows) * (x i - Ideal.div (∑ i, x i) rows)) rows + eps)) * g + b

theorem normed_eq_standard (x : Fin 16384 → EReal) (g b : EReal) (hx : ∀ n, ∃ r : ℝ, x n = r) (hg : ∃ r : ℝ, g = r)
    (n : Fin 16384) : normed (∑ i, x i) (∑ i, x i * x i) g b (x n) = standard x g b n := by
  choose r hr using hx
  obtain ⟨g, rfl⟩ := hg
  obtain ⟨e, he, hee⟩ := eps_pos
  obtain rfl : x = fun n => (r n : EReal) := funext hr
  have hN : (16384 : ℝ) ≠ 0 := by norm_num
  have hv := variance_real r
  unfold normed scale standard
  simp only [rows_eq, invRows_eq, hee, Ideal.div_coe hN, coe_sum, ← EReal.coe_mul, ← EReal.coe_sub, ← EReal.coe_add,
    mul_one_div]
  simp only [mul_one_div] at hv
  have hpos : 0 ≤ (∑ n, r n * r n) / 16384 - (∑ n, r n) / 16384 * ((∑ n, r n) / 16384) := by
    rw [← hv]
    exact div_nonneg (Finset.sum_nonneg fun i _ => mul_self_nonneg _) (by norm_num)
  rw [hv]
  generalize (∑ n, r n * r n) / 16384 - (∑ n, r n) / 16384 * ((∑ n, r n) / 16384) = v at hpos
  generalize (∑ n, r n) / 16384 = μ
  have hs : √(v + e) ≠ 0 := (Real.sqrt_pos.mpr (by linarith)).ne'
  rw [Ideal.rsqrt_coe, Ideal.sqrt_coe, if_neg (by linarith), if_neg (by linarith), if_neg (by linarith), Ideal.div_coe hs]
  simp only [← EReal.coe_mul]
  rw [sub_eq_add_neg b, add_comm b, ← add_assoc, ← EReal.coe_neg, ← EReal.coe_add]
  refine congrArg (fun z : ℝ => (z : EReal) + b) ?_
  field_simp
  ring

end Cert.RunIdeal
-- ==== Proof.Ideal.RefValue.lean ====
/- The reference's result at an example, over exact numbers: the layers over the row normalized by the column's mean and
   variance. -/
module

public import proofs.«01_k».proof.Proof.Ideal.RefTable
public import proofs.«01_k».proof.Proof.Ideal.Normal
public import proofs.«01_k».proof.Proof.Gen.ReferenceIdeal.Run
public import Idealize.ShloMosaic.Lib.Pointwise

@[expose] public section

noncomputable section

namespace Cert.RefIdeal

open Cert.ReferenceIdeal Cert.ReferenceIdeal.Gen
open Idealize.ShloMosaic Idealize.ShloMosaic.TcCoe Idealize.SL.Sem
open Cert.RunIdeal (elem layers layers_congr eps rows rows_eq standard)

/-- The count that divides a sum of squared deviations. -/
def rowsLess : FVec Ideal S_ .f32 := subf (constant S_ .f32 0x46800000#32) (sitofp .f32 (constantI S_ 32 0#32))

/-- An array's difference from its column means. -/
def centered (X : FVec Ideal S16384x416 .f32) : FVec Ideal S16384x416 .f32 :=
  subf X (broadcastInDim S16384x416 ![0, 1] bcast_S1x416_S16384x416_0_1
    (Host.divf (broadcastInDim S1x416 ![1] bcast_S416_S1x416_1
        (Host.reduceAdd X (constant S_ .f32 0x00000000#32) reducesTo_S16384x416_S416_d0 h_S_))
      (broadcastInDim S1x416 ![] bcast_S_S1x416 (constant S_ .f32 0x46800000#32))))

/-- The column variances. -/
def variance (X : FVec Ideal S16384x416 .f32) : FVec Ideal S416 .f32 :=
  select (broadcastInDim S416 ![] bcast_S_S416 (cmpf .ogt rowsLess (constant S_ .f32 0x00000000#32)))
    (Host.divf (Host.reduceAdd (mulf (centered X) (centered X)) (constant S_ .f32 0x00000000#32) reducesTo_S16384x416_S416_d0 h_S_)
      (broadcastInDim S416 ![] bcast_S_S416 rowsLess))
    (broadcastInDim S416 ![] bcast_S_S416 (id (constant S_ .f32 0x7FC00000#32)))

/-- The normalized array. -/
def normal (X : FVec Ideal S16384x416 .f32) (g b : FVec Ideal S416 .f32) : FVec Ideal S16384x416 .f32 :=
  addf (mulf (Host.divf
        (subf X (broadcastInDim S16384x416 ![0, 1] bcast_S1x416_S16384x416_0_1 (broadcastInDim S1x416 ![1] bcast_S416_S1x416_1
          (Host.divf (Host.reduceAdd X (constant S_ .f32 0x00000000#32) reducesTo_S16384x416_S416_d0 h_S_)
            (broadcastInDim S416 ![] bcast_S_S416 (constant S_ .f32 0x46800000#32))))))
        (broadcastInDim S16384x416 ![0, 1] bcast_S1x416_S16384x416_0_1 (broadcastInDim S1x416 ![1] bcast_S416_S1x416_1
          (Host.sqrt (addf (variance X) (broadcastInDim S416 ![] bcast_S_S416 (constant S_ .f32 0x3727C5AC#32)))))))
      (broadcastInDim S16384x416 ![0, 1] bcast_S1x416_S16384x416_0_1 (broadcastInDim S1x416 ![1] bcast_S416_S1x416_1 g)))
    (broadcastInDim S16384x416 ![0, 1] bcast_S1x416_S16384x416_0_1 (broadcastInDim S1x416 ![1] bcast_S416_S1x416_1 b))

/-- The dense layers and the logistic function. -/
def dense (X : FVec Ideal S16384x416 .f32) (w₁ : FVec Ideal S512x416 .f32) (b₁ : FVec Ideal S512 .f32)
    (w₂ : FVec Ideal S256x512 .f32) (b₂ : FVec Ideal S256 .f32) (w₃ : FVec Ideal S1x256 .f32) (b₃ : FVec Ideal S1 .f32) :
    FVec Ideal S16384 .f32 :=
  shapeCast S16384 (Host.divf (broadcastInDim S16384x1 ![] bcast_S_S16384x1 (constant S_ .f32 0x3F800000#32))
    (addf (broadcastInDim S16384x1 ![] bcast_S_S16384x1 (constant S_ .f32 0x3F800000#32)) (Host.exp (Host.negf
      (addf (Host.dotGeneral dot_S16384x256_S256x1_S16384x1_1_0_0_1_n_n none
        (maximumf (addf (Host.dotGeneral dot_S16384x512_S512x256_S16384x256_1_0_0_1_n_n none
          (maximumf (addf (Host.dotGeneral dot_S16384x416_S416x512_S16384x512_1_0_0_1_n_n none X
              (transpose S416x512 [1, 0] w₁ transposes_S512x416_S416x512_1_0))
            (broadcastInDim S16384x512 ![0, 1] bcast_S1x512_S16384x512_0_1 (broadcastInDim S1x512 ![1] bcast_S512_S1x512_1 b₁)))
            (broadcastInDim S16384x512 ![] bcast_S_S16384x512 (constant S_ .f32 0x00000000#32)))
          (transpose S512x256 [1, 0] w₂ transposes_S256x512_S512x256_1_0))
          (broadcastInDim S16384x256 ![0, 1] bcast_S1x256_S16384x256_0_1 (broadcastInDim S1x256 ![1] bcast_S256_S1x256_1 b₂)))
          (broadcastInDim S16384x256 ![] bcast_S_S16384x256 (constant S_ .f32 0x00000000#32)))
        (transpose S256x1 [1, 0] w₃ transposes_S1x256_S256x1_1_0))
        (broadcastInDim S16384x1 ![0, 1] bcast_S1x1_S16384x1_0_1 (broadcastInDim S1x1 ![1] bcast_S1_S1x1_1 b₃)))))))
    shapeCasts_S16384x1_S16384

theorem dense_apply (X : FVec Ideal S16384x416 .f32) (w₁ : FVec Ideal S512x416 .f32) (b₁ : FVec Ideal S512 .f32)
    (w₂ : FVec Ideal S256x512 .f32) (b₂ : FVec Ideal S256 .f32) (w₃ : FVec Ideal S1x256 .f32) (b₃ : FVec Ideal S1 .f32)
    (n : Fin 16384) :
    dense X w₁ b₁ w₂ b₂ w₃ b₃ (ix1 n)
      = layers (fun a => X (ix2 n a)) (fun j a => w₁ (ix2 j a)) (fun j => b₁ (ix1 j)) (fun k j => w₂ (ix2 k j))
          (fun k => b₂ (ix1 k)) (fun k => w₃ (ix2 0 k)) (b₃ (ix1 0)) := by
  unfold dense layers
  pointwise

theorem centered_apply (X : FVec Ideal S16384x416 .f32) (n : Fin 16384) (k : Fin 416) :
    centered X (ix2 n k) = (X (ix2 n k) : EReal) - Ideal.div (∑ n', X (ix2 n' k) : EReal) rows := by
  unfold centered rows
  pointwise

theorem variance_apply (X : FVec Ideal S16384x416 .f32) (k : Fin 416) :
    variance X (ix1 k) = Ideal.div (∑ n, (centered X (ix2 n k) : EReal) * centered X (ix2 n k)) rows := by
  unfold variance rows rowsLess
  pointwise
  have hz : (FloatOps.sitofp .f32 0#32 : Ideal .f32) = (0 : EReal) := by
    show ((((0#32 : BitVec 32).toInt : ℝ)) : EReal) = 0
    simp
  rw [hz, sub_zero, if_pos (by rw [← rows, rows_eq]; exact_mod_cast (by norm_num : (0 : ℝ) < 16384))]

theorem normal_apply (X : FVec Ideal S16384x416 .f32) (g b : FVec Ideal S416 .f32) (n : Fin 16384) (k : Fin 416) :
    normal X g b (ix2 n k)
      = Ideal.div ((X (ix2 n k) : EReal) - Ideal.div (∑ n', X (ix2 n' k) : EReal) rows)
          (Ideal.sqrt ((variance X (ix1 k) : EReal) + eps)) * (g (ix1 k) : EReal) + (b (ix1 k) : EReal) := by
  unfold normal rows eps
  pointwise

variable (m : (ℓ : Loc nD τ sig) → Buf (Elt Ideal) ℓ) (d : Dev nD)

theorem res_eq : Value.res_main_v61 (F := Ideal) m d
    = dense (normal (table (m (d, Proc.devRef .tc main_arg0)) (m (d, Proc.devRef .tc main_arg1)))
        (m (d, Proc.devRef .tc main_arg2)) (m (d, Proc.devRef .tc main_arg3)))
      (m (d, Proc.devRef .tc main_arg4)) (m (d, Proc.devRef .tc main_arg5)) (m (d, Proc.devRef .tc main_arg6))
      (m (d, Proc.devRef .tc main_arg7)) (m (d, Proc.devRef .tc main_arg8)) (m (d, Proc.devRef .tc main_arg9)) := by
  unfold Value.res_main_v61 dense normal variance centered rowsLess table startWords clips fields
  rfl

/-- The reference's normalized element, by the column it stands in. -/
theorem normal_standard (X : FVec Ideal S16384x416 .f32) (g b : FVec Ideal S416 .f32) (n : Fin 16384) (k : Fin 416) :
    normal X g b (ix2 n k) = standard (fun i => X (ix2 i k)) (g (ix1 k)) (b (ix1 k)) n := by
  rw [normal_apply, variance_apply]
  simp only [centered_apply]
  rfl

/-- The reference's result at an example. -/
theorem ref_out (n : Fin 16384) :
    Value.res_main_v61 (F := Ideal) m d (ix1 n)
      = layers (fun a => standard
            (fun i => elem (m (d, Proc.devRef .tc main_arg0)) (m (d, Proc.devRef .tc main_arg1)) i a)
            (m (d, Proc.devRef .tc main_arg2) (ix1 a)) (m (d, Proc.devRef .tc main_arg3) (ix1 a)) n)
          (fun j a => m (d, Proc.devRef .tc main_arg4) (ix2 j a)) (fun j => m (d, Proc.devRef .tc main_arg5) (ix1 j))
          (fun k j => m (d, Proc.devRef .tc main_arg6) (ix2 k j)) (fun k => m (d, Proc.devRef .tc main_arg7) (ix1 k))
          (fun k => m (d, Proc.devRef .tc main_arg8) (ix2 0 k)) (m (d, Proc.devRef .tc main_arg9) (ix1 0)) := by
  rw [res_eq, dense_apply]
  refine layers_congr (fun a => ?_) (fun _ _ => rfl) (fun _ => rfl) (fun _ _ => rfl) (fun _ => rfl) (fun _ => rfl) rfl
  rw [normal_standard]
  exact congrArg (fun x => standard x _ _ n) (funext fun i => table_apply _ _ i a)

end Cert.RefIdeal
-- ==== Proof.Ideal.Finite.lean ====
/- The precondition read: where `tables_and_gamma_finite` holds, every element of the tables and every scale of the
   normalization is a real number. -/
module

public import proofs.«01_k».proof.Pre_tables_and_gamma_finite
public import Idealize.ShloMosaic.PureOps.Ideal
public import Idealize.ShloMosaic.Lib.ReduceAll
public import Idealize.ShloMosaic.Lib.IdealHost

@[expose] public section

noncomputable section

namespace Cert.FiniteIdeal

open Cert.Pre_tables_and_gamma_finite
open Idealize.ShloMosaic

instance facts : Facts where
  bcast_S_S26x100000x16 := by decide
  reducesTo_S26x100000x16_S_d0_1_2 := by decide
  h_S_ := by decide
  bcast_S_S416 := by decide
  reducesTo_S416_S_d0 := by decide

/-- An element whose absolute value lies below the f32 infinity is a real number. -/
theorem real_of_absf_lt (x : EReal)
    (h : FloatOps.cmpf (F := Ideal) (φ := .f32) .olt (FloatOps.absf (F := Ideal) (φ := .f32) x) (Ideal.ofBits .f32 0x7F800000#32) = 1#1) :
    ∃ r : ℝ, x = r := by
  have htop : Ideal.ofBits .f32 0x7F800000#32 = ⊤ := by simp [Ideal.ofBits, Ideal.ieee]
  rw [htop] at h
  have hlt : max x (-x) < ⊤ := by
    by_contra hn
    have h0 : BitVec.ofBool (decide (max x (-x) < ⊤)) = 1#1 := h
    rw [decide_eq_false hn] at h0
    exact absurd h0 (by decide)
  induction x with
  | bot => simp at hlt
  | top => simp at hlt
  | coe r => exact ⟨r, rfl⟩

instance : Subsingleton S_.Idx := ⟨fun a b => funext fun i => i.elim0⟩

theorem real_of_pre (a0 : IVec S16384x26 32) (a1 : FVec Ideal S26x100000x16 .f32) (a2 a3 : FVec Ideal S416 .f32)
    (a4 : FVec Ideal S512x416 .f32) (a5 : FVec Ideal S512 .f32) (a6 : FVec Ideal S256x512 .f32) (a7 : FVec Ideal S256 .f32)
    (a8 : FVec Ideal S1x256 .f32) (a9 : FVec Ideal S1 .f32) (h : fn a0 a1 a2 a3 a4 a5 a6 a7 a8 a9 = fun _ => 1#1) :
    (∀ j, ∃ r : ℝ, (a1 j : EReal) = r) ∧ ∀ j, ∃ r : ℝ, (a2 j : EReal) = r := by
  have h0 := congrFun h ValueIdx.ix0
  obtain ⟨h1, h2⟩ := IntOp.andi_eq_one.1 h0
  refine ⟨fun j => ?_, fun j => ?_⟩
  · have e := Host.reduce_andi_all _ _ _ _ _ h1 j
    exact real_of_absf_lt _ e
  · have e := Host.reduce_andi_all _ _ _ _ _ h2 j
    exact real_of_absf_lt _ e

end Cert.FiniteIdeal
-- ==== Proof.Ideal.Values.lean ====
/- The kernel's result is the reference's, element by element, where the arguments agree and the tables and the scales of
   the normalization are real numbers. -/
module

public import proofs.«01_k».proof.Defs
public import proofs.«01_k».proof.Proof.Ideal.KernelValue
public import proofs.«01_k».proof.Proof.Ideal.RefValue
public import proofs.«01_k».proof.Proof.Ideal.Normal
public import proofs.«01_k».proof.Proof.Ideal.Finite

@[expose] public section

noncomputable section

namespace Cert.ValuesIdeal

open Idealize.ShloMosaic Idealize.ShloMosaic.TcCoe Idealize.SL.Sem
open Cert.KernelIdeal (main_arg0 main_arg1 main_arg2 main_arg3 main_arg4 main_arg5 main_arg6 main_arg7 main_arg8 main_arg9
  main_v20)
open Cert.RunIdeal Cert.RefIdeal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (d : Dev Cert.KernelIdeal.nD)

/-- The two memories hold the same arguments on a device. -/
def Agree : Prop :=
  m' (d, Proc.devRef .tc Cert.ReferenceIdeal.main_arg0) = m (d, Proc.devRef .tc main_arg0)
  ∧ m' (d, Proc.devRef .tc Cert.ReferenceIdeal.main_arg1) = m (d, Proc.devRef .tc main_arg1)
  ∧ m' (d, Proc.devRef .tc Cert.ReferenceIdeal.main_arg2) = m (d, Proc.devRef .tc main_arg2)
  ∧ m' (d, Proc.devRef .tc Cert.ReferenceIdeal.main_arg3) = m (d, Proc.devRef .tc main_arg3)
  ∧ m' (d, Proc.devRef .tc Cert.ReferenceIdeal.main_arg4) = m (d, Proc.devRef .tc main_arg4)
  ∧ m' (d, Proc.devRef .tc Cert.ReferenceIdeal.main_arg5) = m (d, Proc.devRef .tc main_arg5)
  ∧ m' (d, Proc.devRef .tc Cert.ReferenceIdeal.main_arg6) = m (d, Proc.devRef .tc main_arg6)
  ∧ m' (d, Proc.devRef .tc Cert.ReferenceIdeal.main_arg7) = m (d, Proc.devRef .tc main_arg7)
  ∧ m' (d, Proc.devRef .tc Cert.ReferenceIdeal.main_arg8) = m (d, Proc.devRef .tc main_arg8)
  ∧ m' (d, Proc.devRef .tc Cert.ReferenceIdeal.main_arg9) = m (d, Proc.devRef .tc main_arg9)

theorem exists_ix1 (i : (⟨1, ![16384]⟩ : Shape).Idx) : ∃ n : Fin 16384, i = ix1 n :=
  ⟨i 0, funext fun a => by obtain rfl : a = 0 := Subsingleton.elim _ _; rfl⟩

/-- The two results, where the precondition holds and the arguments agree. -/
theorem values_eq (hpre : Cert.Pre_KernelIdeal_tables_and_gamma_finite m) (h : Agree m m' d) :
    Cert.ReferenceIdeal.Value.res_main_v61 (F := Ideal) m' d = V7 m d (Proc.devRef .tc main_v20) := by
  obtain ⟨hx, hg⟩ := Cert.FiniteIdeal.real_of_pre _ _ _ _ _ _ _ _ _ _ (hpre d)
  obtain ⟨e0, e1, e2, e3, e4, e5, e6, e7, e8, e9⟩ := h
  funext i
  obtain ⟨n, rfl⟩ := exists_ix1 i
  refine (ref_out m' d n).trans (Eq.trans ?_ (kernel_out m d n).symm)
  rw [e0, e1, e2, e3, e4, e5, e6, e7, e8, e9]
  exact layers_congr (fun a => (normed_eq_standard (fun i => xs m d i a) _ _ (fun _ => hx _) (hg _) n).symm)
    (fun _ _ => rfl) (fun _ => rfl) (fun _ _ => rfl) (fun _ => rfl) (fun _ => rfl) rfl

end Cert.ValuesIdeal
-- ==== Proof.lean ====
/- The proof of the claims: the frames of the kernel and of the reference, that the idealization keeps the kernel's meaning,
   and that over exact numbers the kernel's result is the reference's. -/
module

public import proofs.«01_k».proof.Defs
public import proofs.«01_k».proof.Proof.Word.Frame
public import proofs.«01_k».proof.Proof.Ideal.Frame
public import proofs.«01_k».proof.Proof.Ideal.Values
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The kernel at its own floats: every run ends with the arguments as they were and the counters at zero. -/
theorem frame_kernel : Cert.quiescent_Kernel := fun m ρ _ =>
  (θ_run Cert.Kernel.defs _ _).mono (fun _ h => ⟨RunKernel.QC_args m h, h.2⟩) (RunKernel.run_main (F := Bits) m ρ)

/-- The same over exact numbers. -/
theorem frame_ideal : Cert.quiescent_KernelIdeal := fun m ρ _ =>
  (θ_run Cert.KernelIdeal.defs _ _).mono (fun _ h => ⟨RunIdeal.QC_args m h, h.2⟩) (RunIdeal.run_main (F := Ideal) m ρ)

/-- The reference over exact numbers; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealization rewrote nothing. -/
theorem preserves : Cert.preserves_Kernel_KernelIdeal := trivial

/-- The frames under the precondition are the frames without it. -/
theorem frame_ideal_pre : Cert.quiescent_KernelIdeal_pre_tables_and_gamma_finite := fun m ρ _ => frame_ideal m ρ trivial
theorem frame_reference_pre : Cert.quiescent_ReferenceIdeal_pre_tables_and_gamma_finite := fun m ρ _ =>
  frame_reference m ρ trivial

/-- Over exact numbers the kernel and the reference end with the same result. -/
theorem algebraic : Cert.algebraic_KernelIdeal_ReferenceIdeal_pre_tables_and_gamma_finite := fun m ρ m' ρ' hpre h =>
  ⟨fun c => RunIdeal.V7 m c (Proc.devRef .tc Cert.KernelIdeal.main_v20),
    (θ_run Cert.KernelIdeal.defs _ _).mono
      (fun _ hr c => ⟨RunIdeal.QC_read m hr c Cert.KernelIdeal.main_v20 rfl, RunIdeal.QC_args m hr c⟩)
      (RunIdeal.run_main (F := Ideal) m ρ),
    (θ_run Cert.ReferenceIdeal.defs _ _).mono
      (fun _ hr c => ⟨(hr c).1.trans (ValuesIdeal.values_eq m m' c hpre (h c)), (hr c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.FiniteIdeal.facts,
    frame_kernel, frame_ideal, frame_ideal_pre, frame_reference, frame_reference_pre, preserves, algebraic⟩

end Cert.Proof

end
